-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x24000 : Shape := ⟨2, ![4, 24000]⟩
abbrev S512x1x10 : Shape := ⟨3, ![512, 1, 10]⟩
abbrev S512 : Shape := ⟨1, ![512]⟩
abbrev S512x512x8 : Shape := ⟨3, ![512, 512, 8]⟩
abbrev S512x512x4 : Shape := ⟨3, ![512, 512, 4]⟩
abbrev S2x320x256 : Shape := ⟨3, ![2, 320, 256]⟩
abbrev S4x1200x20 : Shape := ⟨3, ![4, 1200, 20]⟩
abbrev S512x10 : Shape := ⟨2, ![512, 10]⟩
abbrev S10x512 : Shape := ⟨2, ![10, 512]⟩
abbrev S_ : Shape := ⟨0, ![]⟩
abbrev S30x512 : Shape := ⟨2, ![30, 512]⟩
abbrev S30x2048 : Shape := ⟨2, ![30, 2048]⟩
abbrev S1x512 : Shape := ⟨2, ![1, 512]⟩
abbrev S4x512 : Shape := ⟨2, ![4, 512]⟩
abbrev S2048 : Shape := ⟨1, ![2048]⟩
abbrev S1x2048 : Shape := ⟨2, ![1, 2048]⟩
abbrev S8x512x512 : Shape := ⟨3, ![8, 512, 512]⟩
abbrev S4096x512 : Shape := ⟨2, ![4096, 512]⟩
abbrev S4x512x512 : Shape := ⟨3, ![4, 512, 512]⟩
abbrev S2048x512 : Shape := ⟨2, ![2048, 512]⟩
abbrev S2x256x320 : Shape := ⟨3, ![2, 256, 320]⟩
abbrev S4x2x148 : Shape := ⟨3, ![4, 2, 148]⟩
abbrev S1x1200x20 : Shape := ⟨3, ![1, 1200, 20]⟩
abbrev S1x2x148 : Shape := ⟨3, ![1, 2, 148]⟩
abbrev S1200x20 : Shape := ⟨2, ![1200, 20]⟩
abbrev S1199x10 : Shape := ⟨2, ![1199, 10]⟩
abbrev S1x10 : Shape := ⟨2, ![1, 10]⟩
abbrev S1200x10 : Shape := ⟨2, ![1200, 10]⟩
abbrev S1200x30 : Shape := ⟨2, ![1200, 30]⟩
abbrev S1200x2048 : Shape := ⟨2, ![1200, 2048]⟩
abbrev S1198x2048 : Shape := ⟨2, ![1198, 2048]⟩
abbrev S1198x512 : Shape := ⟨2, ![1198, 512]⟩
abbrev S599x1024 : Shape := ⟨2, ![599, 1024]⟩
abbrev S598x1024 : Shape := ⟨2, ![598, 1024]⟩
abbrev S1024x512 : Shape := ⟨2, ![1024, 512]⟩
abbrev S598x512 : Shape := ⟨2, ![598, 512]⟩
abbrev S299x1024 : Shape := ⟨2, ![299, 1024]⟩
abbrev S298x1024 : Shape := ⟨2, ![298, 1024]⟩
abbrev S298x512 : Shape := ⟨2, ![298, 512]⟩
abbrev S149x1024 : Shape := ⟨2, ![149, 1024]⟩
abbrev S148x1024 : Shape := ⟨2, ![148, 1024]⟩
abbrev S148x512 : Shape := ⟨2, ![148, 512]⟩
abbrev S148x256 : Shape := ⟨2, ![148, 256]⟩
abbrev S1x256x320 : Shape := ⟨3, ![1, 256, 320]⟩
abbrev S256x320 : Shape := ⟨2, ![256, 320]⟩
abbrev S148 : Shape := ⟨1, ![148]⟩
abbrev S148x1 : Shape := ⟨2, ![148, 1]⟩
abbrev S320 : Shape := ⟨1, ![320]⟩
abbrev S1x320 : Shape := ⟨2, ![1, 320]⟩
abbrev S148x320 : Shape := ⟨2, ![148, 320]⟩
abbrev S1x1x148 : Shape := ⟨3, ![1, 1, 148]⟩
abbrev S4x148x2 : Shape := ⟨3, ![4, 148, 2]⟩
abbrev S4x296 : Shape := ⟨2, ![4, 296]⟩

abbrev nBuf : Space → Nat
  | .hbm => 48
  | .vmem => 15
  | .smem => 0
  | _ => 0

abbrev bufTy : (tb : Table) → Fin (tcTables nBuf tb) → BufTy
  | .hbm, ⟨0, _⟩ => ⟨S4x24000, .f32⟩
  | .hbm, ⟨1, _⟩ => ⟨S512x1x10, .f32⟩
  | .hbm, ⟨2, _⟩ => ⟨S512, .f32⟩
  | .hbm, ⟨3, _⟩ => ⟨S512x512x8, .f32⟩
  | .hbm, ⟨4, _⟩ => ⟨S512, .f32⟩
  | .hbm, ⟨5, _⟩ => ⟨S512x512x4, .f32⟩
  | .hbm, ⟨6, _⟩ => ⟨S512, .f32⟩
  | .hbm, ⟨7, _⟩ => ⟨S512x512x4, .f32⟩
  | .hbm, ⟨8, _⟩ => ⟨S512, .f32⟩
  | .hbm, ⟨9, _⟩ => ⟨S512x512x4, .f32⟩
  | .hbm, ⟨10, _⟩ => ⟨S512, .f32⟩
  | .hbm, ⟨11, _⟩ => ⟨S2x320x256, .f32⟩
  | .hbm, ⟨12, _⟩ => ⟨S4x1200x20, .f32⟩
  | .hbm, ⟨13, _⟩ => ⟨S512x10, .f32⟩
  | .hbm, ⟨14, _⟩ => ⟨S10x512, .f32⟩
  | .hbm, ⟨15, _⟩ => ⟨S_, .i32⟩
  | .hbm, ⟨16, _⟩ => ⟨S_, .f32⟩
  | .hbm, ⟨17, _⟩ => ⟨S30x512, .f32⟩
  | .hbm, ⟨18, _⟩ => ⟨S_, .i32⟩
  | .hbm, ⟨19, _⟩ => ⟨S_, .f32⟩
  | .hbm, ⟨20, _⟩ => ⟨S30x512, .f32⟩
  | .hbm, ⟨21, _⟩ => ⟨S_, .i32⟩
  | .hbm, ⟨22, _⟩ => ⟨S_, .f32⟩
  | .hbm, ⟨23, _⟩ => ⟨S30x512, .f32⟩
  | .hbm, ⟨24, _⟩ => ⟨S_, .i32⟩
  | .hbm, ⟨25, _⟩ => ⟨S_, .f32⟩
  | .hbm, ⟨26, _⟩ => ⟨S30x512, .f32⟩
  | .hbm, ⟨27, _⟩ => ⟨S30x2048, .f32⟩
  | .hbm, ⟨28, _⟩ => ⟨S1x512, .f32⟩
  | .hbm, ⟨29, _⟩ => ⟨S4x512, .f32⟩
  | .hbm, ⟨30, _⟩ => ⟨S2048, .f32⟩
  | .hbm, ⟨31, _⟩ => ⟨S1x2048, .f32⟩
  | .hbm, ⟨32, _⟩ => ⟨S8x512x512, .f32⟩
  | .hbm, ⟨33, _⟩ => ⟨S4096x512, .f32⟩
  | .hbm, ⟨34, _⟩ => ⟨S4x512x512, .f32⟩
  | .hbm, ⟨35, _⟩ => ⟨S2048x512, .f32⟩
  | .hbm, ⟨36, _⟩ => ⟨S4x512x512, .f32⟩
  | .hbm, ⟨37, _⟩ => ⟨S2048x512, .f32⟩
  | .hbm, ⟨38, _⟩ => ⟨S4x512x512, .f32⟩
  | .hbm, ⟨39, _⟩ => ⟨S2048x512, .f32⟩
  | .hbm, ⟨40, _⟩ => ⟨S2x256x320, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S4x2x148, .i32⟩
  | .hbm, ⟨46, _⟩ => ⟨S4x148x2, .i32⟩
  | .hbm, ⟨47, _⟩ => ⟨S4x296, .i32⟩
  | .local _ .vmem, ⟨0, _⟩ => ⟨S1x1200x20, .f32⟩
  | .local _ .vmem, ⟨1, _⟩ => ⟨S1x1200x20, .f32⟩
  | .local _ .vmem, ⟨2, _⟩ => ⟨S30x2048, .f32⟩
  | .local _ .vmem, ⟨3, _⟩ => ⟨S4096x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S1x2048, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S2x256x320, .f32⟩
  | .local _ .vmem, ⟨13, _⟩ => ⟨S1x2x148, .i32⟩
  | .local _ .vmem, ⟨14, _⟩ => ⟨S1x2x148, .i32⟩
  | _, _ => ⟨S4x24000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_c_1 : Ref sig .tc := ⟨.hbm, 21, rfl⟩
abbrev main_call2_v0 : Ref sig .tc := ⟨.hbm, 22, rfl⟩
abbrev main_v5 : Ref sig .tc := ⟨.hbm, 23, rfl⟩
abbrev main_c_2 : Ref sig .tc := ⟨.hbm, 24, rfl⟩
abbrev main_call3_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1200x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x256x320 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2x148 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x24000 : Shape := ⟨2, ![4, 24000]⟩
abbrev S512x1x10 : Shape := ⟨3, ![512, 1, 10]⟩
abbrev S512 : Shape := ⟨1, ![512]⟩
abbrev S512x512x8 : Shape := ⟨3, ![512, 512, 8]⟩
abbrev S512x512x4 : Shape := ⟨3, ![512, 512, 4]⟩
abbrev S2x320x256 : Shape := ⟨3, ![2, 320, 256]⟩
abbrev S4x1x24000 : Shape := ⟨3, ![4, 1, 24000]⟩
abbrev S_ : Shape := ⟨0, ![]⟩
abbrev S4x512x4799 : Shape := ⟨3, ![4, 512, 4799]⟩
abbrev S4x1x4799 : Shape := ⟨3, ![4, 1, 4799]⟩
abbrev S512x1x1 : Shape := ⟨3, ![512, 1, 1]⟩
abbrev S512x1 : Shape := ⟨2, ![512, 1]⟩
abbrev S512x4x4799 : Shape := ⟨3, ![512, 4, 4799]⟩
abbrev S1x512x1 : Shape := ⟨3, ![1, 512, 1]⟩
abbrev S4x512x1198 : Shape := ⟨3, ![4, 512, 1198]⟩
abbrev S512x512x1 : Shape := ⟨3, ![512, 512, 1]⟩
abbrev S512x512 : Shape := ⟨2, ![512, 512]⟩
abbrev S512x4x1198 : Shape := ⟨3, ![512, 4, 1198]⟩
abbrev S4x512x598 : Shape := ⟨3, ![4, 512, 598]⟩
abbrev S512x4x598 : Shape := ⟨3, ![512, 4, 598]⟩
abbrev S4x512x298 : Shape := ⟨3, ![4, 512, 298]⟩
abbrev S512x4x298 : Shape := ⟨3, ![512, 4, 298]⟩
abbrev S4x512x148 : Shape := ⟨3, ![4, 512, 148]⟩
abbrev S512x4x148 : Shape := ⟨3, ![512, 4, 148]⟩
abbrev S4x148x512 : Shape := ⟨3, ![4, 148, 512]⟩
abbrev S4x148x2x256 : Shape := ⟨4, ![4, 148, 2, 256]⟩
abbrev S4x148x2 : Shape := ⟨3, ![4, 148, 2]⟩
abbrev S4x148x2x1 : Shape := ⟨4, ![4, 148, 2, 1]⟩
abbrev S2x320 : Shape := ⟨2, ![2, 320]⟩
abbrev S2x320x4x148 : Shape := ⟨4, ![2, 320, 4, 148]⟩
abbrev S4x148x2x320 : Shape := ⟨4, ![4, 148, 2, 320]⟩
abbrev S1x1x2x320 : Shape := ⟨4, ![1, 1, 2, 320]⟩
abbrev S4x296 : Shape := ⟨2, ![4, 296]⟩

abbrev nBuf : Space → Nat
  | .hbm => 258
  | .vmem => 0
  | .smem => 0
  | _ => 0

abbrev hbmTy0_0 (i : Nat) : BufTy := match i % 128 with
  | 0 => ⟨S4x24000, .f32⟩
  | 1 => ⟨S512x1x10, .f32⟩
  | 2 => ⟨S512, .f32⟩
  | 3 => ⟨S512x512x8, .f32⟩
  | 4 => ⟨S512, .f32⟩
  | 5 => ⟨S512x512x4, .f32⟩
  | 6 => ⟨S512, .f32⟩
  | 7 => ⟨S512x512x4, .f32⟩
  | 8 => ⟨S512, .f32⟩
  | 9 => ⟨S512x512x4, .f32⟩
  | 10 => ⟨S512, .f32⟩
  | 11 => ⟨S2x320x256, .f32⟩
  | 12 => ⟨S4x1x24000, .f32⟩
  | 13 => ⟨S_, .f32⟩
  | 14 => ⟨S4x512x4799, .f32⟩
  | 15 => ⟨S4x1x4799, .f32⟩
  | 16 => ⟨S512x1x1, .f32⟩
  | 17 => ⟨S512x1, .f32⟩
  | 18 => ⟨S512x4x4799, .f32⟩
  | 19 => ⟨S4x512x4799, .f32⟩
  | 20 => ⟨S4x512x4799, .f32⟩
  | 21 => ⟨S4x1x4799, .f32⟩
  | 22 => ⟨S512x1x1, .f32⟩
  | 23 => ⟨S512x1, .f32⟩
  | 24 => ⟨S512x4x4799, .f32⟩
  | 25 => ⟨S4x512x4799, .f32⟩
  | 26 => ⟨S4x512x4799, .f32⟩
  | 27 => ⟨S4x1x4799, .f32⟩
  | 28 => ⟨S512x1x1, .f32⟩
  | 29 => ⟨S512x1, .f32⟩
  | 30 => ⟨S512x4x4799, .f32⟩
  | 31 => ⟨S4x512x4799, .f32⟩
  | 32 => ⟨S4x512x4799, .f32⟩
  | 33 => ⟨S4x1x4799, .f32⟩
  | 34 => ⟨S512x1x1, .f32⟩
  | 35 => ⟨S512x1, .f32⟩
  | 36 => ⟨S512x4x4799, .f32⟩
  | 37 => ⟨S4x512x4799, .f32⟩
  | 38 => ⟨S4x512x4799, .f32⟩
  | 39 => ⟨S4x1x4799, .f32⟩
  | 40 => ⟨S512x1x1, .f32⟩
  | 41 => ⟨S512x1, .f32⟩
  | 42 => ⟨S512x4x4799, .f32⟩
  | 43 => ⟨S4x512x4799, .f32⟩
  | 44 => ⟨S4x512x4799, .f32⟩
  | 45 => ⟨S4x1x4799, .f32⟩
  | 46 => ⟨S512x1x1, .f32⟩
  | 47 => ⟨S512x1, .f32⟩
  | 48 => ⟨S512x4x4799, .f32⟩
  | 49 => ⟨S4x512x4799, .f32⟩
  | 50 => ⟨S4x512x4799, .f32⟩
  | 51 => ⟨S4x1x4799, .f32⟩
  | 52 => ⟨S512x1x1, .f32⟩
  | 53 => ⟨S512x1, .f32⟩
  | 54 => ⟨S512x4x4799, .f32⟩
  | 55 => ⟨S4x512x4799, .f32⟩
  | 56 => ⟨S4x512x4799, .f32⟩
  | 57 => ⟨S4x1x4799, .f32⟩
  | 58 => ⟨S512x1x1, .f32⟩
  | 59 => ⟨S512x1, .f32⟩
  | 60 => ⟨S512x4x4799, .f32⟩
  | 61 => ⟨S4x512x4799, .f32⟩
  | 62 => ⟨S4x512x4799, .f32⟩
  | 63 => ⟨S4x1x4799, .f32⟩
  | 64 => ⟨S512x1x1, .f32⟩
  | 65 => ⟨S512x1, .f32⟩
  | 66 => ⟨S512x4x4799, .f32⟩
  | 67 => ⟨S4x512x4799, .f32⟩
  | 68 => ⟨S4x512x4799, .f32⟩
  | 69 => ⟨S4x1x4799, .f32⟩
  | 70 => ⟨S512x1x1, .f32⟩
  | 71 => ⟨S512x1, .f32⟩
  | 72 => ⟨S512x4x4799, .f32⟩
  | 73 => ⟨S4x512x4799, .f32⟩
  | 74 => ⟨S4x512x4799, .f32⟩
  | 75 => ⟨S1x512x1, .f32⟩
  | 76 => ⟨S4x512x4799, .f32⟩
  | 77 => ⟨S4x512x4799, .f32⟩
  | 78 => ⟨S_, .f32⟩
  | 79 => ⟨S4x512x4799, .f32⟩
  | 80 => ⟨S4x512x4799, .f32⟩
  | 81 => ⟨S_, .f32⟩
  | 82 => ⟨S4x512x1198, .f32⟩
  | 83 => ⟨S4x512x1198, .f32⟩
  | 84 => ⟨S512x512x1, .f32⟩
  | 85 => ⟨S512x512, .f32⟩
  | 86 => ⟨S512x4x1198, .f32⟩
  | 87 => ⟨S4x512x1198, .f32⟩
  | 88 => ⟨S4x512x1198, .f32⟩
  | 89 => ⟨S4x512x1198, .f32⟩
  | 90 => ⟨S512x512x1, .f32⟩
  | 91 => ⟨S512x512, .f32⟩
  | 92 => ⟨S512x4x1198, .f32⟩
  | 93 => ⟨S4x512x1198, .f32⟩
  | 94 => ⟨S4x512x1198, .f32⟩
  | 95 => ⟨S4x512x1198, .f32⟩
  | 96 => ⟨S512x512x1, .f32⟩
  | 97 => ⟨S512x512, .f32⟩
  | 98 => ⟨S512x4x1198, .f32⟩
  | 99 => ⟨S4x512x1198, .f32⟩
  | 100 => ⟨S4x512x1198, .f32⟩
  | 101 => ⟨S4x512x1198, .f32⟩
  | 102 => ⟨S512x512x1, .f32⟩
  | 103 => ⟨S512x512, .f32⟩
  | 104 => ⟨S512x4x1198, .f32⟩
  | 105 => ⟨S4x512x1198, .f32⟩
  | 106 => ⟨S4x512x1198, .f32⟩
  | 107 => ⟨S4x512x1198, .f32⟩
  | 108 => ⟨S512x512x1, .f32⟩
  | 109 => ⟨S512x512, .f32⟩
  | 110 => ⟨S512x4x1198, .f32⟩
  | 111 => ⟨S4x512x1198, .f32⟩
  | 112 => ⟨S4x512x1198, .f32⟩
  | 113 => ⟨S4x512x1198, .f32⟩
  | 114 => ⟨S512x512x1, .f32⟩
  | 115 => ⟨S512x512, .f32⟩
  | 116 => ⟨S512x4x1198, .f32⟩
  | 117 => ⟨S4x512x1198, .f32⟩
  | 118 => ⟨S4x512x1198, .f32⟩
  | 119 => ⟨S4x512x1198, .f32⟩
  | 120 => ⟨S512x512x1, .f32⟩
  | 121 => ⟨S512x512, .f32⟩
  | 122 => ⟨S512x4x1198, .f32⟩
  | 123 => ⟨S4x512x1198, .f32⟩
  | 124 => ⟨S4x512x1198, .f32⟩
  | 125 => ⟨S4x512x1198, .f32⟩
  | 126 => ⟨S512x512x1, .f32⟩
  | 127 => ⟨S512x512, .f32⟩
  | _ => ⟨S4x24000, .f32⟩

abbrev hbmTy0_1 (i : Nat) : BufTy := match i % 128 with
  | 0 => ⟨S512x4x1198, .f32⟩
  | 1 => ⟨S4x512x1198, .f32⟩
  | 2 => ⟨S4x512x1198, .f32⟩
  | 3 => ⟨S1x512x1, .f32⟩
  | 4 => ⟨S4x512x1198, .f32⟩
  | 5 => ⟨S4x512x1198, .f32⟩
  | 6 => ⟨S_, .f32⟩
  | 7 => ⟨S4x512x1198, .f32⟩
  | 8 => ⟨S4x512x1198, .f32⟩
  | 9 => ⟨S_, .f32⟩
  | 10 => ⟨S4x512x598, .f32⟩
  | 11 => ⟨S4x512x598, .f32⟩
  | 12 => ⟨S512x512x1, .f32⟩
  | 13 => ⟨S512x512, .f32⟩
  | 14 => ⟨S512x4x598, .f32⟩
  | 15 => ⟨S4x512x598, .f32⟩
  | 16 => ⟨S4x512x598, .f32⟩
  | 17 => ⟨S4x512x598, .f32⟩
  | 18 => ⟨S512x512x1, .f32⟩
  | 19 => ⟨S512x512, .f32⟩
  | 20 => ⟨S512x4x598, .f32⟩
  | 21 => ⟨S4x512x598, .f32⟩
  | 22 => ⟨S4x512x598, .f32⟩
  | 23 => ⟨S4x512x598, .f32⟩
  | 24 => ⟨S512x512x1, .f32⟩
  | 25 => ⟨S512x512, .f32⟩
  | 26 => ⟨S512x4x598, .f32⟩
  | 27 => ⟨S4x512x598, .f32⟩
  | 28 => ⟨S4x512x598, .f32⟩
  | 29 => ⟨S4x512x598, .f32⟩
  | 30 => ⟨S512x512x1, .f32⟩
  | 31 => ⟨S512x512, .f32⟩
  | 32 => ⟨S512x4x598, .f32⟩
  | 33 => ⟨S4x512x598, .f32⟩
  | 34 => ⟨S4x512x598, .f32⟩
  | 35 => ⟨S1x512x1, .f32⟩
  | 36 => ⟨S4x512x598, .f32⟩
  | 37 => ⟨S4x512x598, .f32⟩
  | 38 => ⟨S_, .f32⟩
  | 39 => ⟨S4x512x598, .f32⟩
  | 40 => ⟨S4x512x598, .f32⟩
  | 41 => ⟨S_, .f32⟩
  | 42 => ⟨S4x512x298, .f32⟩
  | 43 => ⟨S4x512x298, .f32⟩
  | 44 => ⟨S512x512x1, .f32⟩
  | 45 => ⟨S512x512, .f32⟩
  | 46 => ⟨S512x4x298, .f32⟩
  | 47 => ⟨S4x512x298, .f32⟩
  | 48 => ⟨S4x512x298, .f32⟩
  | 49 => ⟨S4x512x298, .f32⟩
  | 50 => ⟨S512x512x1, .f32⟩
  | 51 => ⟨S512x512, .f32⟩
  | 52 => ⟨S512x4x298, .f32⟩
  | 53 => ⟨S4x512x298, .f32⟩
  | 54 => ⟨S4x512x298, .f32⟩
  | 55 => ⟨S4x512x298, .f32⟩
  | 56 => ⟨S512x512x1, .f32⟩
  | 57 => ⟨S512x512, .f32⟩
  | 58 => ⟨S512x4x298, .f32⟩
  | 59 => ⟨S4x512x298, .f32⟩
  | 60 => ⟨S4x512x298, .f32⟩
  | 61 => ⟨S4x512x298, .f32⟩
  | 62 => ⟨S512x512x1, .f32⟩
  | 63 => ⟨S512x512, .f32⟩
  | 64 => ⟨S512x4x298, .f32⟩
  | 65 => ⟨S4x512x298, .f32⟩
  | 66 => ⟨S4x512x298, .f32⟩
  | 67 => ⟨S1x512x1, .f32⟩
  | 68 => ⟨S4x512x298, .f32⟩
  | 69 => ⟨S4x512x298, .f32⟩
  | 70 => ⟨S_, .f32⟩
  | 71 => ⟨S4x512x298, .f32⟩
  | 72 => ⟨S4x512x298, .f32⟩
  | 73 => ⟨S_, .f32⟩
  | 74 => ⟨S4x512x148, .f32⟩
  | 75 => ⟨S4x512x148, .f32⟩
  | 76 => ⟨S512x512x1, .f32⟩
  | 77 => ⟨S512x512, .f32⟩
  | 78 => ⟨S512x4x148, .f32⟩
  | 79 => ⟨S4x512x148, .f32⟩
  | 80 => ⟨S4x512x148, .f32⟩
  | 81 => ⟨S4x512x148, .f32⟩
  | 82 => ⟨S512x512x1, .f32⟩
  | 83 => ⟨S512x512, .f32⟩
  | 84 => ⟨S512x4x148, .f32⟩
  | 85 => ⟨S4x512x148, .f32⟩
  | 86 => ⟨S4x512x148, .f32⟩
  | 87 => ⟨S4x512x148, .f32⟩
  | 88 => ⟨S512x512x1, .f32⟩
  | 89 => ⟨S512x512, .f32⟩
  | 90 => ⟨S512x4x148, .f32⟩
  | 91 => ⟨S4x512x148, .f32⟩
  | 92 => ⟨S4x512x148, .f32⟩
  | 93 => ⟨S4x512x148, .f32⟩
  | 94 => ⟨S512x512x1, .f32⟩
  | 95 => ⟨S512x512, .f32⟩
  | 96 => ⟨S512x4x148, .f32⟩
  | 97 => ⟨S4x512x148, .f32⟩
  | 98 => ⟨S4x512x148, .f32⟩
  | 99 => ⟨S1x512x1, .f32⟩
  | 100 => ⟨S4x512x148, .f32⟩
  | 101 => ⟨S4x512x148, .f32⟩
  | 102 => ⟨S_, .f32⟩
  | 103 => ⟨S4x512x148, .f32⟩
  | 104 => ⟨S4x512x148, .f32⟩
  | 105 => ⟨S4x148x512, .f32⟩
  | 106 => ⟨S4x148x2x256, .f32⟩
  | 107 => ⟨S4x148x2x256, .f32⟩
  | 108 => ⟨S_, .f32⟩
  | 109 => ⟨S4x148x2, .f32⟩
  | 110 => ⟨S4x148x2x1, .f32⟩
  | 111 => ⟨S2x320x256, .f32⟩
  | 112 => ⟨S_, .f32⟩
  | 113 => ⟨S2x320, .f32⟩
  | 114 => ⟨S2x320x4x148, .f32⟩
  | 115 => ⟨S4x148x2x320, .f32⟩
  | 116 => ⟨S_, .f32⟩
  | 117 => ⟨S4x148x2x320, .f32⟩
  | 118 => ⟨S4x148x2x320, .f32⟩
  | 119 => ⟨S4x148x2x320, .f32⟩
  | 120 => ⟨S4x148x2x320, .f32⟩
  | 121 => ⟨S1x1x2x320, .f32⟩
  | 122 => ⟨S4x148x2x320, .f32⟩
  | 123 => ⟨S4x148x2x320, .f32⟩
  | 124 => ⟨S4x148x2x320, .i32⟩
  | 125 => ⟨S_, .f32⟩
  | 126 => ⟨S_, .i32⟩
  | 127 => ⟨S4x148x2, .f32⟩
  | _ => ⟨S4x24000, .f32⟩

abbrev hbmTy0_2 (i : Nat) : BufTy := match i % 128 with
  | 0 => ⟨S4x148x2, .i32⟩
  | 1 => ⟨S4x296, .i32⟩
  | _ => ⟨S4x24000, .f32⟩

abbrev hbmTy (i : Nat) : BufTy := match i / 128 with
  | 0 => hbmTy0_0 i
  | 1 => hbmTy0_1 i
  | 2 => hbmTy0_2 i
  | _ => ⟨S4x24000, .f32⟩

abbrev bufTy : (tb : Table) → Fin (tcTables nBuf tb) → BufTy
  | .hbm, ⟨i, _⟩ => hbmTy i
  | _, _ => ⟨S4x24000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_call0_cst : Ref sig .tc := ⟨.hbm, 78, rfl⟩
abbrev main_call0_v0 : Ref sig .tc := ⟨.hbm, 79, rfl⟩
abbrev main_v65 : Ref sig .tc := ⟨.hbm, 80, rfl⟩
abbrev main_cst_0 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_call1_cst : Ref sig .tc := ⟨.hbm, 134, rfl⟩
abbrev main_call1_v0 : Ref sig .tc := ⟨.hbm, 135, rfl⟩
abbrev main_v118 : Ref sig .tc := ⟨.hbm, 136, rfl⟩
abbrev main_cst_1 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_call2_cst : Ref sig .tc := ⟨.hbm, 166, rfl⟩
abbrev main_call2_v0 : Ref sig .tc := ⟨.hbm, 167, rfl⟩
abbrev main_v147 : Ref sig .tc := ⟨.hbm, 168, rfl⟩
abbrev main_cst_2 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_call3_cst : Ref sig .tc := ⟨.hbm, 198, rfl⟩
abbrev main_call3_v0 : Ref sig .tc := ⟨.hbm, 199, rfl⟩
abbrev main_v176 : Ref sig .tc := ⟨.hbm, 200, rfl⟩
abbrev main_cst_3 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_call4_cst : Ref sig .tc := ⟨.hbm, 230, rfl⟩
abbrev main_call4_v0 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_cst_4 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_cst_5 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_cst_6 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_call5_v0 : Ref sig .tc := ⟨.hbm, 252, rfl⟩
abbrev main_call5_cst : Ref sig .tc := ⟨.hbm, 253, rfl⟩
abbrev main_call5_c : Ref sig .tc := ⟨.hbm, 254, rfl⟩
abbrev main_call5_v1_0 : Ref sig .tc := ⟨.hbm, 255, rfl⟩
abbrev main_v222 : Ref sig .tc := ⟨.hbm, 256, rfl⟩
abbrev main_v223 : Ref sig .tc := ⟨.hbm, 257, rfl⟩

abbrev nD : Nat := 1
abbrev τ : Topo := Topo.v7x

variable {F : FTy → Type} [FloatOps F]
-- ==== Proof.Spec.lean ====
/- The mathematics of the problem over the extended reals: the strided convolutions, the codewords' distances, and the
   code as the first codeword at the least distance. Both programs are shown equal to these. -/
module

public import Idealize.ShloMosaic.Lib.Pointwise

@[expose] public section

set_option Elab.async false

noncomputable section

namespace Cert.Spec

open Idealize.ShloMosaic

/-- An array of extended reals of shape `[a]`. -/
abbrev Arr1 (a : ℕ) : Type := (⟨1, ![a]⟩ : Shape).Idx → EReal
/-- An array of extended reals of shape `[a, b]`. -/
abbrev Arr2 (a b : ℕ) : Type := (⟨2, ![a, b]⟩ : Shape).Idx → EReal
/-- An array of extended reals of shape `[a, b, c]`. -/
abbrev Arr3 (a b c : ℕ) : Type := (⟨3, ![a, b, c]⟩ : Shape).Idx → EReal

/-- A tap of an output position that exists lies inside the input. -/
theorem tap_lt {K s T T' : ℕ} (hT : s * (T' - 1) + K ≤ T) (k : Fin K) (t : Fin T') : k.1 + s * t.1 < T := by
  have h : s * t.1 ≤ s * (T' - 1) := Nat.mul_le_mul_left s (by omega)
  omega

/-- The strided VALID convolution of the one-channel signal `x`, with its bias and the relu, at batch `n`, channel `o`,
    position `t`. -/
def conv₁ (K s T T' : ℕ) (hT : s * (T' - 1) + K ≤ T) (w : Arr3 512 1 K) (b : Arr1 512) (x : Arr2 4 T)
    (n : Fin 4) (o : Fin 512) (t : Fin T') : EReal :=
  max ((∑ k : Fin K, w (ix3 o 0 k) * x (ix2 n ⟨k.1 + s * t.1, tap_lt hT k t⟩)) + b (ix1 o)) 0

/-- The strided VALID convolution of 512 channels, with its bias and the relu, at batch `n`, channel `o`, position `t`. -/
def conv (K s T T' : ℕ) (hT : s * (T' - 1) + K ≤ T) (w : Arr3 512 512 K) (b : Arr1 512) (h : Fin 4 → Fin 512 → Fin T → EReal)
    (n : Fin 4) (o : Fin 512) (t : Fin T') : EReal :=
  max ((∑ k : Fin K, ∑ i : Fin 512, w (ix3 o i k) * h n i ⟨k.1 + s * t.1, tap_lt hT k t⟩) + b (ix1 o)) 0

/-- Four taps written out. -/
theorem conv_four {s T T' : ℕ} (hT : s * (T' - 1) + 4 ≤ T) (w : Arr3 512 512 4) (b : Arr1 512) (h : Fin 4 → Fin 512 → Fin T → EReal)
    (n : Fin 4) (o : Fin 512) (t : Fin T') :
    conv 4 s T T' hT w b h n o t = max ((∑ i, w (ix3 o i 0) * h n i ⟨s * t.1, by have := tap_lt hT 0 t; simpa using this⟩)
      + (∑ i, w (ix3 o i 1) * h n i ⟨1 + s * t.1, tap_lt hT 1 t⟩) + (∑ i, w (ix3 o i 2) * h n i ⟨2 + s * t.1, tap_lt hT 2 t⟩)
      + (∑ i, w (ix3 o i 3) * h n i ⟨3 + s * t.1, tap_lt hT 3 t⟩) + b (ix1 o)) 0 := by
  have h0 : (⟨(0 : Fin 4).1 + s * t.1, tap_lt hT 0 t⟩ : Fin T) = ⟨s * t.1, by have := tap_lt hT 0 t; simpa using this⟩ :=
    Fin.ext (Nat.zero_add _)
  rw [conv, Fin.sum_univ_four, h0]
  rfl

/-- Eight taps written out. -/
theorem conv_eight {s T T' : ℕ} (hT : s * (T' - 1) + 8 ≤ T) (w : Arr3 512 512 8) (b : Arr1 512) (h : Fin 4 → Fin 512 → Fin T → EReal)
    (n : Fin 4) (o : Fin 512) (t : Fin T') :
    conv 8 s T T' hT w b h n o t = max ((∑ i, w (ix3 o i 0) * h n i ⟨s * t.1, by have := tap_lt hT 0 t; simpa using this⟩)
      + (∑ i, w (ix3 o i 1) * h n i ⟨1 + s * t.1, tap_lt hT 1 t⟩) + (∑ i, w (ix3 o i 2) * h n i ⟨2 + s * t.1, tap_lt hT 2 t⟩)
      + (∑ i, w (ix3 o i 3) * h n i ⟨3 + s * t.1, tap_lt hT 3 t⟩) + (∑ i, w (ix3 o i 4) * h n i ⟨4 + s * t.1, tap_lt hT 4 t⟩)
      + (∑ i, w (ix3 o i 5) * h n i ⟨5 + s * t.1, tap_lt hT 5 t⟩) + (∑ i, w (ix3 o i 6) * h n i ⟨6 + s * t.1, tap_lt hT 6 t⟩)
      + (∑ i, w (ix3 o i 7) * h n i ⟨7 + s * t.1, tap_lt hT 7 t⟩) + b (ix1 o)) 0 := by
  have h0 : (⟨(0 : Fin 8).1 + s * t.1, tap_lt hT 0 t⟩ : Fin T) = ⟨s * t.1, by have := tap_lt hT 0 t; simpa using this⟩ :=
    Fin.ext (Nat.zero_add _)
  rw [conv, Fin.sum_univ_eight, h0]
  rfl

/-- Ten taps of the one-channel signal written out. -/
theorem conv₁_ten {s T T' : ℕ} (hT : s * (T' - 1) + 10 ≤ T) (w : Arr3 512 1 10) (b : Arr1 512) (x : Arr2 4 T)
    (n : Fin 4) (o : Fin 512) (t : Fin T') :
    conv₁ 10 s T T' hT w b x n o t = max (w (ix3 o 0 0) * x (ix2 n ⟨s * t.1, by have := tap_lt hT 0 t; simpa using this⟩)
      + w (ix3 o 0 1) * x (ix2 n ⟨1 + s * t.1, tap_lt hT 1 t⟩) + w (ix3 o 0 2) * x (ix2 n ⟨2 + s * t.1, tap_lt hT 2 t⟩)
      + w (ix3 o 0 3) * x (ix2 n ⟨3 + s * t.1, tap_lt hT 3 t⟩) + w (ix3 o 0 4) * x (ix2 n ⟨4 + s * t.1, tap_lt hT 4 t⟩)
      + w (ix3 o 0 5) * x (ix2 n ⟨5 + s * t.1, tap_lt hT 5 t⟩) + w (ix3 o 0 6) * x (ix2 n ⟨6 + s * t.1, tap_lt hT 6 t⟩)
      + w (ix3 o 0 7) * x (ix2 n ⟨7 + s * t.1, tap_lt hT 7 t⟩) + w (ix3 o 0 8) * x (ix2 n ⟨8 + s * t.1, tap_lt hT 8 t⟩)
      + w (ix3 o 0 9) * x (ix2 n ⟨9 + s * t.1, tap_lt hT 9 t⟩) + b (ix1 o)) 0 := by
  have h0 : (⟨(0 : Fin 10).1 + s * t.1, tap_lt hT 0 t⟩ : Fin T) = ⟨s * t.1, by have := tap_lt hT 0 t; simpa using this⟩ :=
    Fin.ext (Nat.zero_add _)
  rw [conv₁, Fin.sum_univ_castSucc, Fin.sum_univ_castSucc, Fin.sum_univ_eight, ← h0]
  rfl

/-- The channel of group `g`'s coordinate `d`. -/
def chan (g : Fin 2) (d : Fin 256) : Fin 512 := ⟨256 * g.1 + d.1, by omega⟩

/-- The squared distance, expanded, of the features at `(n, t)` in group `g` from codeword `k`. -/
def dist (cb : Arr3 2 320 256) (h : Fin 4 → Fin 512 → Fin 148 → EReal) (n : Fin 4) (t : Fin 148) (g : Fin 2) (k : Fin 320) : EReal :=
  (∑ d, h n (chan g d) t * h n (chan g d) t) - Ideal.ofBits .f32 0x40000000#32 * (∑ d, cb (ix3 g k d) * h n (chan g d) t)
    + ∑ d, cb (ix3 g k d) * cb (ix3 g k d)

/-- `c` is the first position at which `f` is least. -/
def IsCode (f : Fin 320 → EReal) (c : BitVec 32) : Prop :=
  ∃ k : Fin 320, c = BitVec.ofNat 32 k.1 ∧ (∀ j, f k ≤ f j) ∧ ∀ j, j < k → f k < f j

/-- There is one first position at which a function is least. -/
theorem IsCode.unique {f : Fin 320 → EReal} {c c' : BitVec 32} (h : IsCode f c) (h' : IsCode f c') : c = c' := by
  obtain ⟨k, rfl, hk, hl⟩ := h
  obtain ⟨k', rfl, hk', hl'⟩ := h'
  have : k = k' := by
    rcases lt_trichotomy k k' with hlt | heq | hgt
    · exact absurd (hk k') (not_le.mpr (hl' k hlt))
    · exact heq
    · exact absurd (hk' k) (not_le.mpr (hl k' hgt))
  rw [this]

end Cert.Spec

end
-- ==== Proof.Sums.lean ====
/- The re-groupings of sums between the problem's mathematics and the kernel's: a sum over packed columns by position and
   channel, a sum against weights that are zero outside a stretch, and a convolution as two products. -/
module

public import proofs.«01_k».proof.Proof.Spec

@[expose] public section

set_option Elab.async false

noncomputable section

namespace Cert.Sums

open Idealize.ShloMosaic Cert.Spec

theorem col_lt {J M : ℕ} (hM : M = J * 512) (k : Fin J) (i : Fin 512) : 512 * k.1 + i.1 < M := by
  have : k.1 + 1 ≤ J := k.2
  have : (k.1 + 1) * 512 ≤ J * 512 := Nat.mul_le_mul_right 512 this
  omega

/-- A sum over `J` positions' 512 channels laid side by side, by position and channel. -/
theorem sum_columns {J M : ℕ} (hM : M = J * 512) (F : Fin M → EReal) :
    ∑ q, F q = ∑ k : Fin J, ∑ i : Fin 512, F ⟨512 * k.1 + i.1, col_lt hM k i⟩ := by
  subst hM
  rw [← Fintype.sum_equiv finProdFinEquiv (fun p => F (finProdFinEquiv p)) F (fun _ => rfl), Fintype.sum_prod_type]
  refine Finset.sum_congr rfl fun k _ => Finset.sum_congr rfl fun i _ => congrArg F (Fin.ext ?_)
  simp [finProdFinEquiv, Nat.add_comm]

/-- A sum of products whose second factors are zero outside `K` neighbouring positions. -/
theorem sum_stretch {M K a : ℕ} (ha : a + K ≤ M) (g v : Fin M → EReal) (w : Fin K → EReal)
    (hin : ∀ k : Fin K, v ⟨a + k.1, by omega⟩ = w k) (hout : ∀ q : Fin M, (q.1 < a ∨ a + K ≤ q.1) → v q = 0) :
    ∑ q, g q * v q = ∑ k : Fin K, w k * g ⟨a + k.1, by omega⟩ := by
  symm
  refine Fintype.sum_of_injective (fun k : Fin K => (⟨a + k.1, by omega⟩ : Fin M)) ?_ _ _ ?_ ?_
  · intro k k' h
    have := congrArg Fin.val h
    exact Fin.ext (by simpa using this)
  · intro q hq
    have : q.1 < a ∨ a + K ≤ q.1 := by
      by_contra hc
      apply hq
      exact ⟨⟨q.1 - a, by omega⟩, Fin.ext (by show a + (q.1 - a) = q.1; omega)⟩
    rw [hout q this, mul_zero]
  · intro k
    rw [hin k, mul_comm]

theorem tap0_lt {J K T T' : ℕ} (hK : K = J + J) (hT : J * (T' - 1) + K ≤ T) (k : Fin J) (t : Fin T') : k.1 + J * t.1 < T := by
  have := tap_lt hT ⟨k.1, by omega⟩ t
  exact this

theorem tap1_lt {J K T T' : ℕ} (hK : K = J + J) (hT : J * (T' - 1) + K ≤ T) (k : Fin J) (t : Fin T') : J + k.1 + J * t.1 < T := by
  have := tap_lt hT ⟨J + k.1, by omega⟩ t
  exact this

/-- A convolution of stride `J` and `2 J` taps is two products: with the first `J` taps' weights and with the others'. -/
theorem conv_of_halves {J K M T T' : ℕ} (hK : K = J + J) (hM : M = J * 512) (hT : J * (T' - 1) + K ≤ T) (w : Arr3 512 512 K) (b : Arr1 512)
    (h : Fin 4 → Fin 512 → Fin T → EReal) (n : Fin 4) (o : Fin 512) (t : Fin T') (L0 L1 W0 W1 : Fin M → EReal) (c : EReal)
    (hL0 : ∀ (k : Fin J) (i : Fin 512), L0 ⟨512 * k.1 + i.1, col_lt hM k i⟩ = h n i ⟨k.1 + J * t.1, tap0_lt hK hT k t⟩)
    (hL1 : ∀ (k : Fin J) (i : Fin 512), L1 ⟨512 * k.1 + i.1, col_lt hM k i⟩ = h n i ⟨J + k.1 + J * t.1, tap1_lt hK hT k t⟩)
    (hW0 : ∀ (k : Fin J) (i : Fin 512), W0 ⟨512 * k.1 + i.1, col_lt hM k i⟩ = w (ix3 o i ⟨k.1, by omega⟩))
    (hW1 : ∀ (k : Fin J) (i : Fin 512), W1 ⟨512 * k.1 + i.1, col_lt hM k i⟩ = w (ix3 o i ⟨J + k.1, by omega⟩))
    (hc : c = b (ix1 o)) :
    max (∑ q, L0 q * W0 q + ∑ q, L1 q * W1 q + c) 0 = conv K J T T' hT w b h n o t := by
  subst hK
  rw [conv, Fin.sum_univ_add, sum_columns hM, sum_columns hM, hc]
  refine congrArg (fun e => max (e + b (ix1 o)) 0) (congr (congrArg _ ?_) ?_)
  · refine Finset.sum_congr rfl fun k _ => Finset.sum_congr rfl fun i _ => ?_
    rw [hL0, hW0, mul_comm]
    rfl
  · refine Finset.sum_congr rfl fun k _ => Finset.sum_congr rfl fun i _ => ?_
    rw [hL1, hW1, mul_comm]
    rfl

end Cert.Sums

end
-- ==== Proof.RefLine.lean ====
/- The reference's @main as one list of host operations, read off the printed program. -/
module

public import proofs.«01_k».proof.Proof.Gen.ReferenceIdeal
public import Idealize.ShloMosaic.Lib.StableHlo.RunHlo
public import Idealize.ShloMosaic.Lib.Pointwise

@[expose] public section

set_option Elab.async false

noncomputable section

namespace Cert.RefLine

open Cert.ReferenceIdeal Cert.ReferenceIdeal.Gen Idealize.ShloMosaic Idealize.ShloMosaic.TcCoe Idealize.SL.Sem Idealize.ShloMosaic.StableHlo

/-- One host operation is the line of that operation. -/
theorem seq_one {nD : Nat} {τ : Topo} {sig : RefSig} {Val : EltTy → Type} {Λ : Labels} (op : HloOp τ sig Val) :
    IsSeq (nD := nD) (Λ := Λ) (hlo rfl op fun _ => .ret (⟨⟩ : PUnit)) [op] := rfl

/-- Two lines, one run after the other, are the line of both lists. -/
theorem seq_two {nD : Nat} {τ : Topo} {sig : RefSig} {Val : EltTy → Type} {Λ : Labels}
    {p : Prog (TpuEff nD τ sig Val Λ .tc) PUnit} {k : PUnit → Prog (TpuEff nD τ sig Val Λ .tc) PUnit} {l l' : List (HloOp τ sig Val)}
    (hp : IsSeq p l) (hk : IsSeq (k ⟨⟩) l') : IsSeq (p >>= k) (l ++ l') := by
  unfold IsSeq at hp hk ⊢
  rw [seq_append, ← hp, ← hk]

set_option maxRecDepth 16384 in
set_option maxHeartbeats 4000000 in
/-- The operations of @main in order, with the evidence that @main is their straight line. -/
def line : {ops : List (HloOp τ sig (Elt Ideal)) // IsSeq (main (F := Ideal) 0) ops} := by
  apply Subtype.mk
  unfold main main_part0 main_part1 main_part2 main_part3
    fn_relu.body fn_relu_0.body fn_relu_1.body fn_relu_2.body fn_relu_3.body fn_argmin.body
  repeat (first | with_reducible exact IsSeq.nil | with_reducible exact seq_one _ | apply seq_two)

/-- The operations of @main in order. -/
def ops : List (HloOp τ sig (Elt Ideal)) := line.1

theorem ops_length : ops.length = 246 := rfl

/-- The buffers the operations write, in order: all after the twelve arguments. -/
def written : List (Ref sig .tc) := List.ofFn fun i : Fin 246 => ⟨.hbm, ⟨i.1 + 12, by show i.1 + 12 < 258; omega⟩, rfl⟩

set_option maxRecDepth 16384 in
theorem ops_writes : ops.map HloOp.writes = written.map fun w => {Proc.devRef (τ := τ) .tc w} := rfl

set_option maxRecDepth 16384 in
theorem ops_fresh_map : ops.map HloOp.fresh = List.replicate 246 ∅ := rfl

/-- No operation leaves its result open. -/
theorem ops_fresh : ∀ op ∈ ops, op.fresh = ∅ := fun op h =>
  List.eq_of_mem_replicate (ops_fresh_map ▸ List.mem_map_of_mem h)

end Cert.RefLine

end
-- ==== Proof.ArgMin.lean ====
/- The position of the smallest of 320 values, taken by the two programs' own folds, is the first one. -/
module

public import proofs.«01_k».proof.Proof.Spec
public import proofs.«01_k».proof.Proof.Gen.ReferenceIdeal
public import Idealize.ShloMosaic.Lib.Pointwise
public import Idealize.ShloMosaic.Lib.SortNet.Extract

@[expose] public section

set_option Elab.async false

noncomputable section

namespace Cert.ArgMin

open Idealize.ShloMosaic Cert.Spec

/-- The word 0x7F800000 is plus infinity. -/
theorem inf_top : Ideal.ofBits .f32 0x7F800000#32 = ⊤ := by simp [Ideal.ofBits, Ideal.ieee]

/-- A small number written as a 32-bit word reads back as itself. -/
theorem toInt_small (k : ℕ) (hk : k < 1000) : (BitVec.ofNat 32 k).toInt = (k : ℤ) := by
  rw [BitVec.toInt_eq_toNat_of_lt] <;> simp <;> omega

/-- Among 320 values there is a first smallest one. -/
theorem first_min (f : Fin 320 → EReal) : ∃ k, (∀ j, f k ≤ f j) ∧ ∀ j, j < k → f k < f j := by
  obtain ⟨a, -, ha⟩ := Finset.exists_min_image Finset.univ f ⟨0, Finset.mem_univ _⟩
  have hne : (Finset.univ.filter fun j => f j = f a).Nonempty := ⟨a, by simp⟩
  refine ⟨Finset.min' _ hne, ?_, ?_⟩
  · have h := Finset.min'_mem _ hne
    simp only [Finset.mem_filter, Finset.mem_univ, true_and] at h
    intro j
    rw [h]
    exact ha j (Finset.mem_univ _)
  · have h := Finset.min'_mem _ hne
    simp only [Finset.mem_filter, Finset.mem_univ, true_and] at h
    intro j hj
    rw [h]
    refine lt_of_le_of_ne (ha j (Finset.mem_univ _)) fun he => ?_
    exact absurd (Finset.min'_le _ j (by simp [he])) (not_le.mpr hj)

/-- The kernel's way: the smallest index among those that hold the minimum, 320 standing for the others. -/
theorem isCode_fold (f : Fin 320 → EReal) :
    IsCode f (Finset.fold IntOp.minsi 2147483647#32
      (fun x => if f x = Finset.fold min (Ideal.ofBits .f32 0x7F800000#32) (fun x => f x) Finset.univ
        then BitVec.ofNat 32 x.1 else 320#32) Finset.univ) := by
  obtain ⟨k, hk, hk'⟩ := first_min f
  have hm : Finset.fold min (Ideal.ofBits .f32 0x7F800000#32) (fun x => f x) Finset.univ = f k := by
    rw [inf_top]
    apply le_antisymm
    · exact Finset.fold_min_le _ |>.mpr (Or.inr ⟨k, Finset.mem_univ _, le_rfl⟩)
    · exact Finset.le_fold_min _ |>.mpr ⟨le_top, fun x _ => hk x⟩
  refine ⟨k, ?_, hk, hk'⟩
  rw [hm]
  apply BitVec.eq_of_toInt_eq
  rw [← Finset.fold_hom (op' := min) (m := BitVec.toInt) SortNet.toInt_minsi, toInt_small k.1 (by omega)]
  apply le_antisymm
  · refine Finset.fold_min_le _ |>.mpr (Or.inr ⟨k, Finset.mem_univ _, ?_⟩)
    rw [if_pos rfl, toInt_small k.1 (by omega)]
  · refine Finset.le_fold_min _ |>.mpr ⟨?_, fun x _ => ?_⟩
    · have : (2147483647#32).toInt = 2147483647 := by decide
      omega
    · split
      · rename_i hx
        rw [toInt_small x.1 (by omega)]
        have : ¬ x < k := fun h => absurd (hk' x h) (by rw [hx]; exact lt_irrefl _)
        have : k.1 ≤ x.1 := not_lt.mp this
        omega
      · have : (320#32).toInt = 320 := by decide
        omega

/-- One (value, index) pair comes before another: a smaller value, or the same value at a smaller index. -/
def Before (p q : EReal × BitVec 32) : Prop := p.1 < q.1 ∨ (p.1 = q.1 ∧ p.2.toInt ≤ q.2.toInt)

theorem Before.refl (p : EReal × BitVec 32) : Before p p := Or.inr ⟨rfl, le_rfl⟩

theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The reference's step keeps one of its two pairs, and the kept pair comes before both. -/
theorem step (a b : EReal × BitVec 32) :
    (ReferenceIdeal.reducer_argmin_f32_i32 (F := Ideal) a b = a ∨ ReferenceIdeal.reducer_argmin_f32_i32 (F := Ideal) a b = b)
      ∧ Before (ReferenceIdeal.reducer_argmin_f32_i32 (F := Ideal) a b) a
      ∧ Before (ReferenceIdeal.reducer_argmin_f32_i32 (F := Ideal) a b) b := by
  obtain ⟨x, i⟩ := a
  obtain ⟨y, j⟩ := b
  have hu : (FloatOps.cmpf (F := Ideal) (φ := .f32) .une x x : BitVec 1) = 0#1 := by
    rw [Ideal.cmpf_def]; simp [Ideal.cmp]
  rcases lt_trichotomy x y with h | h | h
  · have : ReferenceIdeal.reducer_argmin_f32_i32 (F := Ideal) (x, i) (y, j) = (x, i) := by
      have h1 : (FloatOps.cmpf (F := Ideal) (φ := .f32) .olt x y : BitVec 1) = 1#1 := by rw [Ideal.cmpf_def]; simp [Ideal.cmp, h]
      have h2 : FloatOps.cmpf (F := Ideal) (φ := .f32) .oeq x y = 0#1 := by rw [Ideal.cmpf_def]; simp [Ideal.cmp, h.ne]
      simp [ReferenceIdeal.reducer_argmin_f32_i32, hu, h1, h2, IntOp.ori, IntOp.andi, Scalar.select]
    rw [this]
    exact ⟨Or.inl rfl, Before.refl _, Or.inl h⟩
  · subst h
    have h1 : (FloatOps.cmpf (F := Ideal) (φ := .f32) .olt x x : BitVec 1) = 0#1 := by rw [Ideal.cmpf_def]; simp [Ideal.cmp]
    have h2 : (FloatOps.cmpf (F := Ideal) (φ := .f32) .oeq x x : BitVec 1) = 1#1 := by rw [Ideal.cmpf_def]; simp [Ideal.cmp]
    by_cases hij : i.toInt < j.toInt
    · have : ReferenceIdeal.reducer_argmin_f32_i32 (F := Ideal) (x, i) (x, j) = (x, i) := by
        have h3 : IntOp.cmpi .slt i j = 1#1 := by simp [IntOp.cmpi, BitVec.slt, hij]
        simp [ReferenceIdeal.reducer_argmin_f32_i32, hu, h1, h2, h3, IntOp.ori, IntOp.andi, Scalar.select]
      rw [this]
      exact ⟨Or.inl rfl, Before.refl _, Or.inr ⟨rfl, hij.le⟩⟩
    · have : ReferenceIdeal.reducer_argmin_f32_i32 (F := Ideal) (x, i) (x, j) = (x, j) := by
        have h3 : IntOp.cmpi .slt i j = 0#1 := by simp [IntOp.cmpi, BitVec.slt, hij]
        simp [ReferenceIdeal.reducer_argmin_f32_i32, hu, h1, h2, h3, IntOp.ori, IntOp.andi, Scalar.select]
      rw [this]
      exact ⟨Or.inr rfl, Or.inr ⟨rfl, not_lt.mp hij⟩, Before.refl _⟩
  · have : ReferenceIdeal.reducer_argmin_f32_i32 (F := Ideal) (x, i) (y, j) = (y, j) := by
      have h1 : (FloatOps.cmpf (F := Ideal) (φ := .f32) .olt x y : BitVec 1) = 0#1 := by
        rw [Ideal.cmpf_def]; simp [Ideal.cmp, not_lt.mpr h.le]
      have h2 : (FloatOps.cmpf (F := Ideal) (φ := .f32) .oeq x y : BitVec 1) = 0#1 := by
        rw [Ideal.cmpf_def]; simp [Ideal.cmp, h.ne']
      simp [ReferenceIdeal.reducer_argmin_f32_i32, hu, h1, h2, IntOp.ori, IntOp.andi, Scalar.select]
    rw [this]
    exact ⟨Or.inr rfl, Or.inl h, Before.refl _⟩

/-- Folding the step over a list keeps one of the pairs met, and it comes before all of them. -/
theorem foldl_step (L : List (EReal × BitVec 32)) (p : EReal × BitVec 32) :
    L.foldl (ReferenceIdeal.reducer_argmin_f32_i32 (F := Ideal)) p ∈ p :: L
      ∧ ∀ q ∈ p :: L, Before (L.foldl (ReferenceIdeal.reducer_argmin_f32_i32 (F := Ideal)) p) q := by
  induction L generalizing p with
  | nil => exact ⟨by simp, by simp [Before.refl]⟩
  | cons b L ih =>
    obtain ⟨hm, hb⟩ := ih (ReferenceIdeal.reducer_argmin_f32_i32 (F := Ideal) p b)
    obtain ⟨h1, h2, h3⟩ := step p b
    rw [List.foldl_cons]
    constructor
    · rcases List.mem_cons.mp hm with h | h
      · rw [h]
        rcases h1 with h1 | h1 <;> rw [h1] <;> simp
      · exact List.mem_cons_of_mem _ (List.mem_cons_of_mem _ h)
    · intro q hq
      have h0 := hb _ List.mem_cons_self
      rcases List.mem_cons.mp hq with rfl | hq
      · exact h0.trans h2
      rcases List.mem_cons.mp hq with rfl | hq
      · exact h0.trans h3
      · exact hb q (List.mem_cons_of_mem _ hq)

/-- The reference's way: folding its step, from (plus infinity, 0), over any listing of the values with their indices. -/
theorem isCode_foldl (f : Fin 320 → EReal) (L : List (EReal × BitVec 32))
    (hL : ∀ q, q ∈ L ↔ ∃ k : Fin 320, q = (f k, BitVec.ofNat 32 k.1)) :
    IsCode f (L.foldl (ReferenceIdeal.reducer_argmin_f32_i32 (F := Ideal)) (⊤, 0#32)).2 := by
  obtain ⟨hm, hb⟩ := foldl_step L (⊤, 0#32)
  generalize L.foldl (ReferenceIdeal.reducer_argmin_f32_i32 (F := Ideal)) (⊤, 0#32) = r at hm hb
  have hb' : ∀ k : Fin 320, Before r (f k, BitVec.ofNat 32 k.1) := fun k =>
    hb _ (List.mem_cons_of_mem _ ((hL _).mpr ⟨k, rfl⟩))
  have key : ∀ k : Fin 320, r = (f k, BitVec.ofNat 32 k.1) → IsCode f r.2 := by
    rintro k rfl
    refine ⟨k, rfl, fun j => ?_, fun j hj => ?_⟩
    · rcases hb' j with h | ⟨h, -⟩
      · exact h.le
      · exact h.le
    · rcases hb' j with h | ⟨-, h⟩
      · exact h
      · have hj' : j.1 < k.1 := hj
        simp only [toInt_small _ (show k.1 < 1000 by omega), toInt_small _ (show j.1 < 1000 by omega)] at h
        omega
  rcases List.mem_cons.mp hm with rfl | h
  · apply key 0
    have h0 : (⊤ : EReal) = f 0 := by
      rcases hb' 0 with h | ⟨h, -⟩
      · exact absurd h (not_lt.mpr le_top)
      · exact h
    rw [← h0]; rfl
  · obtain ⟨k, hk⟩ := (hL r).mp h
    exact key k hk

/-- The reference's reduction over the last axis of the distances is the first smallest distance. -/
theorem isCode_argReduce (x : FVec Ideal ⟨4, ![4, 148, 2, 320]⟩ .f32) {u : Shape} (ix : u.Idx → Ideal .f32) (iy : u.Idx → BitVec 32)
    (h : (⟨4, ![4, 148, 2, 320]⟩ : Shape).ReducesTo [3] ⟨3, ![4, 148, 2]⟩) (hu : 0 < u.numel)
    (hix : ix (Shape.Idx.first hu) = Ideal.ofBits .f32 0x7F800000#32) (hiy : iy (Shape.Idx.first hu) = 0#32)
    (n : Fin 4) (t : Fin 148) (g : Fin 2) :
    IsCode (fun k => x (ix4 n t g k))
      (Host.argReduce (ReferenceIdeal.reducer_argmin_f32_i32 (F := Ideal)) x (iotaInDim ⟨4, ![4, 148, 2, 320]⟩ 32 3) ix iy h hu (ix3 n t g)).2 := by
  rw [Ideal.argReduce_eq_reduce2, Host.reduce2_eq_foldl_fiber, hix, hiy, inf_top]
  apply isCode_foldl
  intro q
  simp only [Host.argReduceFiber, List.mem_map, List.mem_filter, decide_eq_true_eq, List.mem_finRange, true_and]
  constructor
  · rintro ⟨m, hm, rfl⟩
    obtain ⟨k, hk⟩ := (h.fiber_r4_a3 _ _).mp hm
    exact ⟨k, by rw [← hk]; rfl⟩
  · rintro ⟨k, rfl⟩
    refine ⟨Shape.rowMajor _ (ix4 n t g k), ?_, ?_⟩
    · rw [Equiv.symm_apply_apply]
      exact (h.fiber_r4_a3 _ _).mpr ⟨k, rfl⟩
    · rw [Equiv.symm_apply_apply]; rfl

end Cert.ArgMin
-- ==== Proof.RefStages.lean ====
/- What each stretch of the reference's operations computes: its layers, its distances, its codes. -/
module

public import proofs.«01_k».proof.Proof.RefLine
public import proofs.«01_k».proof.Proof.Spec
public import proofs.«01_k».proof.Proof.ArgMin
public import Idealize.ShloMosaic.Lib.StableHlo.ReadAt
public import Idealize.ShloMosaic.Lib.Pointwise

@[expose] public section

set_option Elab.async false

noncomputable section

namespace Cert.RefLine

open Cert.ReferenceIdeal Cert.ReferenceIdeal.Gen Idealize.ShloMosaic Idealize.ShloMosaic.TcCoe Idealize.SL.Sem Idealize.ShloMosaic.StableHlo

/-- The operations from position `i` up to position `j`. -/
abbrev win (i j : ℕ) : List (HloOp τ sig (Elt Ideal)) := (ops.drop i).take (j - i)

set_option maxRecDepth 16384 in
set_option maxHeartbeats 4000000 in
/-- The first layer. -/
theorem win_0 (V : Valuation τ sig (Elt Ideal)) (n : Fin 4) (o : Fin 512) (t : Fin 4799) :
    after (win 0 69) V (Proc.devRef .tc main_v65) (ix3 n o t) =
      Spec.conv₁ 10 5 24000 4799 (by omega) (V (Proc.devRef .tc main_arg1)) (V (Proc.devRef .tc main_arg2))
        (V (Proc.devRef .tc main_arg0)) n o t := by
  rw [Spec.conv₁_ten]
  after_reads_at
  simp only [Fin.sum_univ_one]

set_option maxRecDepth 16384 in
set_option maxHeartbeats 4000000 in
/-- The second layer, from the one before. -/
theorem win_69 (V : Valuation τ sig (Elt Ideal)) (n : Fin 4) (o : Fin 512) (t : Fin 1198) :
    after (win 69 125) V (Proc.devRef .tc main_v118) (ix3 n o t) =
      Spec.conv 8 4 4799 1198 (by omega) (V (Proc.devRef .tc main_arg3)) (V (Proc.devRef .tc main_arg4))
        (fun n i t => V (Proc.devRef .tc main_v65) (ix3 n i t)) n o t := by
  rw [Spec.conv_eight]
  after_reads_at

set_option maxRecDepth 16384 in
set_option maxHeartbeats 4000000 in
/-- The third layer, from the one before. -/
theorem win_125 (V : Valuation τ sig (Elt Ideal)) (n : Fin 4) (o : Fin 512) (t : Fin 598) :
    after (win 125 157) V (Proc.devRef .tc main_v147) (ix3 n o t) =
      Spec.conv 4 2 1198 598 (by omega) (V (Proc.devRef .tc main_arg5)) (V (Proc.devRef .tc main_arg6))
        (fun n i t => V (Proc.devRef .tc main_v118) (ix3 n i t)) n o t := by
  rw [Spec.conv_four]
  after_reads_at

set_option maxRecDepth 16384 in
set_option maxHeartbeats 4000000 in
/-- The fourth layer, from the one before. -/
theorem win_157 (V : Valuation τ sig (Elt Ideal)) (n : Fin 4) (o : Fin 512) (t : Fin 298) :
    after (win 157 189) V (Proc.devRef .tc main_v176) (ix3 n o t) =
      Spec.conv 4 2 598 298 (by omega) (V (Proc.devRef .tc main_arg7)) (V (Proc.devRef .tc main_arg8))
        (fun n i t => V (Proc.devRef .tc main_v147) (ix3 n i t)) n o t := by
  rw [Spec.conv_four]
  after_reads_at

set_option maxRecDepth 16384 in
set_option maxHeartbeats 4000000 in
/-- The last layer, from the one before. -/
theorem win_189 (V : Valuation τ sig (Elt Ideal)) (n : Fin 4) (o : Fin 512) (t : Fin 148) :
    after (win 189 221) V (Proc.devRef .tc main_v205) (ix3 n o t) =
      Spec.conv 4 2 298 148 (by omega) (V (Proc.devRef .tc main_arg9)) (V (Proc.devRef .tc main_arg10))
        (fun n i t => V (Proc.devRef .tc main_v176) (ix3 n i t)) n o t := by
  rw [Spec.conv_four]
  after_reads_at

set_option maxRecDepth 16384 in
set_option maxHeartbeats 4000000 in
/-- The distances, from the last layer. -/
theorem win_221 (V : Valuation τ sig (Elt Ideal)) (n : Fin 4) (t : Fin 148) (g : Fin 2) (k : Fin 320) :
    after (win 221 240) V (Proc.devRef .tc main_v221) (ix4 n t g k) =
      Spec.dist (V (Proc.devRef .tc main_arg11)) (fun n i t => V (Proc.devRef .tc main_v205) (ix3 n i t)) n t g k := by
  have hc : ∀ d : Fin 256, Spec.chan g d = ⟨g.1 * 256 + d.1, by omega⟩ := fun d => Fin.ext (by show 256 * g.1 + d.1 = g.1 * 256 + d.1; omega)
  rw [Spec.dist]
  simp only [hc]
  after_reads_at

set_option maxRecDepth 16384 in
set_option maxHeartbeats 4000000 in
/-- The codes, from the distances. -/
theorem win_240 (V : Valuation τ sig (Elt Ideal)) (n : Fin 4) (j : Fin 296) :
    Spec.IsCode (fun k => V (Proc.devRef .tc main_v221) (ix4 n (⟨j.1 / 2, by omega⟩ : Fin 148) (⟨j.1 % 2, by omega⟩ : Fin 2) k))
      (after (win 240 246) V (Proc.devRef .tc main_v223) (ix2 n j)) := by
  have h : after (win 240 246) V (Proc.devRef .tc main_v223) (ix2 n j) =
      (Host.argReduce (reducer_argmin_f32_i32 (F := Ideal)) (V (Proc.devRef .tc main_v221)) (iotaInDim S4x148x2x320 32 3)
        (constant S_ .f32 0x7F800000#32) (constantI S_ 32 0#32) reducesTo_S4x148x2x320_S4x148x2_d3 h_S_
        (ix3 n (⟨j.1 / 2, by omega⟩ : Fin 148) (⟨j.1 % 2, by omega⟩ : Fin 2))).2 := by
    after_reads_at
  rw [h]
  exact ArgMin.isCode_argReduce _ _ _ _ _ rfl rfl _ _ _

end Cert.RefLine

end
-- ==== Proof.RefRun.lean ====
/- The reference's run: it ends, and leaves in each buffer what the list of its operations leaves there. -/
module

public import proofs.«01_k».proof.Proof.RefLine
public import Idealize.ShloMosaic.Lib.StableHlo.RunRead

@[expose] public section

set_option Elab.async false

noncomputable section

namespace Cert.RefLine

open Cert.ReferenceIdeal Cert.ReferenceIdeal.Gen Idealize.ShloMosaic Idealize.ShloMosaic.TcCoe Idealize.SL.Sem Idealize.ShloMosaic.StableHlo

/-- What holds of an element holds of every element of the list of it alone. -/
theorem forall_one {α : Type} {p : α → Prop} {a : α} (h : p a) : ∀ b ∈ [a], p b := by
  intro b hb
  rw [List.mem_singleton.mp hb]
  exact h

/-- What holds throughout two lists holds throughout the two joined. -/
theorem forall_two {α : Type} {p : α → Prop} {l l' : List α} (h : ∀ b ∈ l, p b) (h' : ∀ b ∈ l', p b) : ∀ b ∈ l ++ l', p b :=
  fun b hb => (List.mem_append.mp hb).elim (h b) (h' b)

/-- Anything holds throughout the empty list. -/
theorem forall_none {α : Type} {p : α → Prop} : ∀ b ∈ ([] : List α), p b := fun _ hb => absurd hb List.not_mem_nil

set_option maxRecDepth 16384 in
set_option maxHeartbeats 400000 in
/-- Every operation works on the core's own buffers. -/
theorem ops_sub : ∀ op ∈ ops, op.bufs ⊆ tcRefs τ sig := by
  unfold ops line
  dsimp only
  repeat' (first | with_reducible exact forall_none | with_reducible refine forall_one ?_ | with_reducible refine forall_two ?_ ?_)
  all_goals first | with_reducible exact unary_bufs_sub .. | with_reducible exact nullary_bufs_sub .. | with_reducible exact binary_bufs_sub .. | with_reducible exact reshape_bufs_sub .. | skip
  all_goals exact quaternary_bufs_sub ..

/-- Every run of the reference ends, and leaves in each buffer what its operations, in order, leave there. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_seq (by decide) (by decide) defs main (fun _ => ops) (fun _ => line.2) (fun _ => List.forall_iff_forall_mem.mpr ops_sub) m ρ fun _ => ops_fresh

/-- An argument keeps its contents through any stretch of the operations. -/
theorem arg_keep (V : Valuation τ sig (Elt Ideal)) (i j : ℕ) (b : Ref sig .tc) (hb : b ∉ written) :
    after ((ops.drop i).take j) V (Proc.devRef .tc b) = V (Proc.devRef .tc b) := by
  refine after_unwritten ((written.drop i).take j) ?_ (fun h => hb (List.mem_of_mem_drop (List.mem_of_mem_take h))) V
  rw [List.map_take, List.map_drop, ops_writes, List.map_take, List.map_drop]

end Cert.RefLine

end
-- ==== Proof.RefValue.lean ====
/- The reference's result: at every frame and group, the code of the problem's mathematics; its arguments are kept. -/
module

public import proofs.«01_k».proof.Proof.RefStages
public import proofs.«01_k».proof.Proof.RefRun

@[expose] public section

set_option Elab.async false

noncomputable section

namespace Cert.Spec

/-- The five layers one after the other. -/
def features (x : Arr2 4 24000) (w0 : Arr3 512 1 10) (b0 : Arr1 512) (w1 : Arr3 512 512 8) (b1 : Arr1 512) (w2 : Arr3 512 512 4)
    (b2 : Arr1 512) (w3 : Arr3 512 512 4) (b3 : Arr1 512) (w4 : Arr3 512 512 4) (b4 : Arr1 512) : Fin 4 → Fin 512 → Fin 148 → EReal :=
  conv 4 2 298 148 (by omega) w4 b4 (conv 4 2 598 298 (by omega) w3 b3 (conv 4 2 1198 598 (by omega) w2 b2
    (conv 8 4 4799 1198 (by omega) w1 b1 (conv₁ 10 5 24000 4799 (by omega) w0 b0 x))))

end Cert.Spec

namespace Cert.RefLine

open Cert.ReferenceIdeal Cert.ReferenceIdeal.Gen Idealize.ShloMosaic Idealize.ShloMosaic.TcCoe Idealize.SL.Sem Idealize.ShloMosaic.StableHlo

/-- The operations are their seven stretches. -/
theorem ops_split : ops = win 0 69 ++ (win 69 125 ++ (win 125 157 ++ (win 157 189 ++ (win 189 221 ++ (win 221 240 ++ win 240 246))))) := rfl

/-- No argument is among the buffers written. -/
theorem args_unwritten : ∀ b ∈ [main_arg0, main_arg1, main_arg2, main_arg3, main_arg4, main_arg5, main_arg6, main_arg7, main_arg8, main_arg9,
    main_arg10, main_arg11], b ∉ written := by
  decide

/-- An argument keeps its contents through a stretch. -/
theorem win_arg (V : Valuation τ sig (Elt Ideal)) (i j : ℕ) (b : Ref sig .tc)
    (hb : b ∈ [main_arg0, main_arg1, main_arg2, main_arg3, main_arg4, main_arg5, main_arg6, main_arg7, main_arg8, main_arg9, main_arg10, main_arg11]) :
    after (win i j) V (Proc.devRef .tc b) = V (Proc.devRef .tc b) := arg_keep V i (j - i) b (args_unwritten b hb)

/-- An argument keeps its contents through the whole program. -/
theorem ops_arg (V : Valuation τ sig (Elt Ideal)) (b : Ref sig .tc)
    (hb : b ∈ [main_arg0, main_arg1, main_arg2, main_arg3, main_arg4, main_arg5, main_arg6, main_arg7, main_arg8, main_arg9, main_arg10, main_arg11]) :
    after ops V (Proc.devRef .tc b) = V (Proc.devRef .tc b) :=
  after_unwritten written ops_writes (args_unwritten b hb) V

/-- A convolution depends on its weights, bias and input alone. -/
theorem conv_congr {K s T T' : ℕ} {hT : s * (T' - 1) + K ≤ T} {w w' : Spec.Arr3 512 512 K} {b b' : Spec.Arr1 512}
    {h h' : Fin 4 → Fin 512 → Fin T → EReal} (ew : w = w') (eb : b = b') (eh : h = h') (n : Fin 4) (o : Fin 512) (t : Fin T') :
    Spec.conv K s T T' hT w b h n o t = Spec.conv K s T T' hT w' b' h' n o t := by
  subst ew eb eh
  rfl

/-- The contents after the first stretch, and after each later one. -/
def val0 (V : Valuation τ sig (Elt Ideal)) : Valuation τ sig (Elt Ideal) := after (win 0 69) V
@[inherit_doc val0] def val1 (V : Valuation τ sig (Elt Ideal)) : Valuation τ sig (Elt Ideal) := after (win 69 125) (val0 V)
@[inherit_doc val0] def val2 (V : Valuation τ sig (Elt Ideal)) : Valuation τ sig (Elt Ideal) := after (win 125 157) (val1 V)
@[inherit_doc val0] def val3 (V : Valuation τ sig (Elt Ideal)) : Valuation τ sig (Elt Ideal) := after (win 157 189) (val2 V)
@[inherit_doc val0] def val4 (V : Valuation τ sig (Elt Ideal)) : Valuation τ sig (Elt Ideal) := after (win 189 221) (val3 V)
@[inherit_doc val0] def val5 (V : Valuation τ sig (Elt Ideal)) : Valuation τ sig (Elt Ideal) := after (win 221 240) (val4 V)

section

variable (V : Valuation τ sig (Elt Ideal)) (b : Ref sig .tc)
  (hb : b ∈ [main_arg0, main_arg1, main_arg2, main_arg3, main_arg4, main_arg5, main_arg6, main_arg7, main_arg8, main_arg9, main_arg10, main_arg11])

include hb

/-- Every argument is what it was at the start. -/
theorem val0_arg : val0 V (Proc.devRef .tc b) = V (Proc.devRef .tc b) := win_arg V 0 69 b hb
@[inherit_doc val0_arg] theorem val1_arg : val1 V (Proc.devRef .tc b) = V (Proc.devRef .tc b) :=
  (win_arg (val0 V) 69 125 b hb).trans (val0_arg V b hb)
@[inherit_doc val0_arg] theorem val2_arg : val2 V (Proc.devRef .tc b) = V (Proc.devRef .tc b) :=
  (win_arg (val1 V) 125 157 b hb).trans (val1_arg V b hb)
@[inherit_doc val0_arg] theorem val3_arg : val3 V (Proc.devRef .tc b) = V (Proc.devRef .tc b) :=
  (win_arg (val2 V) 157 189 b hb).trans (val2_arg V b hb)
@[inherit_doc val0_arg] theorem val4_arg : val4 V (Proc.devRef .tc b) = V (Proc.devRef .tc b) :=
  (win_arg (val3 V) 189 221 b hb).trans (val3_arg V b hb)
@[inherit_doc val0_arg] theorem val5_arg : val5 V (Proc.devRef .tc b) = V (Proc.devRef .tc b) :=
  (win_arg (val4 V) 221 240 b hb).trans (val4_arg V b hb)

end

/-- The layers of the launch contents `V`'s arguments. -/
def layer0 (V : Valuation τ sig (Elt Ideal)) : Fin 4 → Fin 512 → Fin 4799 → EReal :=
  Spec.conv₁ 10 5 24000 4799 (by omega) (V (Proc.devRef .tc main_arg1)) (V (Proc.devRef .tc main_arg2)) (V (Proc.devRef .tc main_arg0))
@[inherit_doc layer0] def layer1 (V : Valuation τ sig (Elt Ideal)) : Fin 4 → Fin 512 → Fin 1198 → EReal :=
  Spec.conv 8 4 4799 1198 (by omega) (V (Proc.devRef .tc main_arg3)) (V (Proc.devRef .tc main_arg4)) (layer0 V)
@[inherit_doc layer0] def layer2 (V : Valuation τ sig (Elt Ideal)) : Fin 4 → Fin 512 → Fin 598 → EReal :=
  Spec.conv 4 2 1198 598 (by omega) (V (Proc.devRef .tc main_arg5)) (V (Proc.devRef .tc main_arg6)) (layer1 V)
@[inherit_doc layer0] def layer3 (V : Valuation τ sig (Elt Ideal)) : Fin 4 → Fin 512 → Fin 298 → EReal :=
  Spec.conv 4 2 598 298 (by omega) (V (Proc.devRef .tc main_arg7)) (V (Proc.devRef .tc main_arg8)) (layer2 V)
@[inherit_doc layer0] def layer4 (V : Valuation τ sig (Elt Ideal)) : Fin 4 → Fin 512 → Fin 148 → EReal :=
  Spec.conv 4 2 298 148 (by omega) (V (Proc.devRef .tc main_arg9)) (V (Proc.devRef .tc main_arg10)) (layer3 V)

/-- The stretches leave the layers. -/
theorem val0_layer (V : Valuation τ sig (Elt Ideal)) : (fun n o t => val0 V (Proc.devRef .tc main_v65) (ix3 n o t)) = layer0 V := by
  funext n o t
  exact win_0 V n o t
@[inherit_doc val0_layer] theorem val1_layer (V : Valuation τ sig (Elt Ideal)) :
    (fun n o t => val1 V (Proc.devRef .tc main_v118) (ix3 n o t)) = layer1 V := by
  funext n o t
  exact (win_69 (val0 V) n o t).trans
    (conv_congr (val0_arg V main_arg3 (by simp)) (val0_arg V main_arg4 (by simp)) (val0_layer V) n o t)
@[inherit_doc val0_layer] theorem val2_layer (V : Valuation τ sig (Elt Ideal)) :
    (fun n o t => val2 V (Proc.devRef .tc main_v147) (ix3 n o t)) = layer2 V := by
  funext n o t
  exact (win_125 (val1 V) n o t).trans
    (conv_congr (val1_arg V main_arg5 (by simp)) (val1_arg V main_arg6 (by simp)) (val1_layer V) n o t)
@[inherit_doc val0_layer] theorem val3_layer (V : Valuation τ sig (Elt Ideal)) :
    (fun n o t => val3 V (Proc.devRef .tc main_v176) (ix3 n o t)) = layer3 V := by
  funext n o t
  exact (win_157 (val2 V) n o t).trans
    (conv_congr (val2_arg V main_arg7 (by simp)) (val2_arg V main_arg8 (by simp)) (val2_layer V) n o t)
@[inherit_doc val0_layer] theorem val4_layer (V : Valuation τ sig (Elt Ideal)) :
    (fun n o t => val4 V (Proc.devRef .tc main_v205) (ix3 n o t)) = layer4 V := by
  funext n o t
  exact (win_189 (val3 V) n o t).trans
    (conv_congr (val3_arg V main_arg9 (by simp)) (val3_arg V main_arg10 (by simp)) (val3_layer V) n o t)

/-- What the whole program leaves in the result. -/
theorem ops_result (V : Valuation τ sig (Elt Ideal)) (n : Fin 4) (j : Fin 296) :
    Spec.IsCode (Spec.dist (V (Proc.devRef .tc main_arg11))
        (Spec.features (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10)))
        n ⟨j.1 / 2, by omega⟩ ⟨j.1 % 2, by omega⟩)
      (after ops V (Proc.devRef .tc main_v223) (ix2 n j)) := by
  have hs : after ops V = after (win 240 246) (val5 V) := by
    rw [ops_split]
    simp only [after_append]
    rfl
  have hd : (fun k => val5 V (Proc.devRef .tc main_v221) (ix4 n (⟨j.1 / 2, by omega⟩ : Fin 148) (⟨j.1 % 2, by omega⟩ : Fin 2) k)) =
      Spec.dist (V (Proc.devRef .tc main_arg11)) (layer4 V) n ⟨j.1 / 2, by omega⟩ ⟨j.1 % 2, by omega⟩ := by
    funext k
    have h := win_221 (val4 V) n ⟨j.1 / 2, by omega⟩ ⟨j.1 % 2, by omega⟩ k
    rw [val4_layer V, show val4 V (Proc.devRef .tc main_arg11) = V (Proc.devRef .tc main_arg11) from val4_arg V main_arg11 (by simp)] at h
    exact h
  have h := win_240 (val5 V) n j
  rw [hd, ← hs] at h
  exact h

end Cert.RefLine

end
-- ==== Proof.Body.lean ====
/- The kernel's body as its five layers, each named, and what each holds at a row and a column. -/
module

public import proofs.«01_k».proof.Proof.Gen.KernelIdeal.Frame
public import proofs.«01_k».proof.Proof.Sums
public import proofs.«01_k».proof.Proof.RefValue
public import Idealize.ShloMosaic.Lib.Pointwise

@[expose] public section

set_option Elab.async false

noncomputable section

namespace Cert.Body

open Cert.KernelIdeal Cert.KernelIdeal.Gen Idealize.ShloMosaic Idealize.ShloMosaic.TcCoe Idealize.SL.Sem Idealize.ShloMosaic.StableHlo

/-- The first layer, four neighbouring positions of all channels in one row. -/
def lay0 (x : Vec Ideal S1x1200x20 .f32) (w : Vec Ideal S30x2048 .f32) (b : Vec Ideal S1x2048 .f32) : FVec Ideal S1200x2048 .f32 :=
  have v1 : FVec Ideal S1200x20 .f32 := shapeCast S1200x20 x shapeCasts_S1x1200x20_S1200x20
  have v2 : FVec Ideal S1199x10 .f32 := extractStridedSlice S1199x10 ![1, 0] v1 slices_S1200x20_o1_0_S1199x10
  have cst : Ideal .f32 := Scalar.ofBits .f32 0x00000000#32
  have v3 : FVec Ideal S1x10 .f32 := broadcast S1x10 cst
  have v4 : FVec Ideal S1200x10 .f32 := concatenate S1200x10 0 [⟨S1199x10, v2⟩, ⟨S1x10, v3⟩] concatenates_S1199x10_S1x10_S1200x10_d0
  have v5 : FVec Ideal S1200x30 .f32 := concatenate S1200x30 1 [⟨S1200x20, v1⟩, ⟨S1200x10, v4⟩] concatenates_S1200x20_S1200x10_S1200x30_d1
  have v7 : FVec Ideal S30x2048 .f32 := shapeCast S30x2048 w shapeCasts_S30x2048_S30x2048
  have cst_4 : FVec Ideal S1200x2048 .f32 := constant S1200x2048 .f32 0x00000000#32
  have v8 : FVec Ideal S1200x2048 .f32 := matmul dot_S1200x30_S30x2048_S1200x2048_1_0_0_1_n_n none v5 v7 cst_4
  have v10 : FVec Ideal S1x2048 .f32 := shapeCast S1x2048 b shapeCasts_S1x2048_S1x2048
  have v11 : FVec Ideal S1200x2048 .f32 := broadcastTo S1200x2048 v10 broadcasts_S1x2048_S1200x2048
  have v12 : FVec Ideal S1200x2048 .f32 := addf v8 v11
  maximumf v12 (broadcast S1200x2048 cst)

/-- The second layer, from the first. -/
def lay1 (f : FVec Ideal S1200x2048 .f32) (w w' : Vec Ideal S2048x512 .f32) (b : Vec Ideal S1x512 .f32) : FVec Ideal S1198x512 .f32 :=
  have v15 : FVec Ideal S1198x2048 .f32 := extractStridedSlice S1198x2048 ![0, 0] f slices_S1200x2048_o0_0_S1198x2048
  have v17 : FVec Ideal S2048x512 .f32 := shapeCast S2048x512 w shapeCasts_S2048x512_S2048x512
  have cst_10 : FVec Ideal S1198x512 .f32 := constant S1198x512 .f32 0x00000000#32
  have v18 : FVec Ideal S1198x512 .f32 := matmul dot_S1198x2048_S2048x512_S1198x512_1_0_0_1_n_n none v15 v17 cst_10
  have v19 : FVec Ideal S1198x2048 .f32 := extractStridedSlice S1198x2048 ![1, 0] f slices_S1200x2048_o1_0_S1198x2048
  have v21 : FVec Ideal S2048x512 .f32 := shapeCast S2048x512 w' shapeCasts_S2048x512_S2048x512
  have v22 : FVec Ideal S1198x512 .f32 := matmul dot_S1198x2048_S2048x512_S1198x512_1_0_0_1_n_n none v19 v21 cst_10
  have v23 : FVec Ideal S1198x512 .f32 := addf v18 v22
  have v25 : FVec Ideal S1x512 .f32 := shapeCast S1x512 b shapeCasts_S1x512_S1x512
  have v26 : FVec Ideal S1198x512 .f32 := broadcastTo S1198x512 v25 broadcasts_S1x512_S1198x512
  have v27 : FVec Ideal S1198x512 .f32 := addf v23 v26
  maximumf v27 (broadcast S1198x512 (Scalar.ofBits .f32 0x00000000#32))

/-- The third layer, from the one before. -/
def lay2 (h : FVec Ideal S1198x512 .f32) (w w' : Vec Ideal S1024x512 .f32) (b : Vec Ideal S1x512 .f32) : FVec Ideal S598x512 .f32 :=
  have p : FVec Ideal S599x1024 .f32 := shapeCast S599x1024 h shapeCasts_S1198x512_S599x1024
  have v31 : FVec Ideal S598x1024 .f32 := extractStridedSlice S598x1024 ![0, 0] p slices_S599x1024_o0_0_S598x1024
  have v33 : FVec Ideal S1024x512 .f32 := shapeCast S1024x512 w shapeCasts_S1024x512_S1024x512
  have cst : FVec Ideal S598x512 .f32 := constant S598x512 .f32 0x00000000#32
  have v34 : FVec Ideal S598x512 .f32 := matmul dot_S598x1024_S1024x512_S598x512_1_0_0_1_n_n none v31 v33 cst
  have v35 : FVec Ideal S598x1024 .f32 := extractStridedSlice S598x1024 ![1, 0] p slices_S599x1024_o1_0_S598x1024
  have v37 : FVec Ideal S1024x512 .f32 := shapeCast S1024x512 w' shapeCasts_S1024x512_S1024x512
  have v38 : FVec Ideal S598x512 .f32 := matmul dot_S598x1024_S1024x512_S598x512_1_0_0_1_n_n none v35 v37 cst
  have v39 : FVec Ideal S598x512 .f32 := addf v34 v38
  have v41 : FVec Ideal S1x512 .f32 := shapeCast S1x512 b shapeCasts_S1x512_S1x512
  have v42 : FVec Ideal S598x512 .f32 := broadcastTo S598x512 v41 broadcasts_S1x512_S598x512
  have v43 : FVec Ideal S598x512 .f32 := addf v39 v42
  maximumf v43 (broadcast S598x512 (Scalar.ofBits .f32 0x00000000#32))

/-- The fourth layer, from the one before. -/
def lay3 (h : FVec Ideal S598x512 .f32) (w w' : Vec Ideal S1024x512 .f32) (b : Vec Ideal S1x512 .f32) : FVec Ideal S298x512 .f32 :=
  have p : FVec Ideal S299x1024 .f32 := shapeCast S299x1024 h shapeCasts_S598x512_S299x1024
  have v31 : FVec Ideal S298x1024 .f32 := extractStridedSlice S298x1024 ![0, 0] p slices_S299x1024_o0_0_S298x1024
  have v33 : FVec Ideal S1024x512 .f32 := shapeCast S1024x512 w shapeCasts_S1024x512_S1024x512
  have cst : FVec Ideal S298x512 .f32 := constant S298x512 .f32 0x00000000#32
  have v34 : FVec Ideal S298x512 .f32 := matmul dot_S298x1024_S1024x512_S298x512_1_0_0_1_n_n none v31 v33 cst
  have v35 : FVec Ideal S298x1024 .f32 := extractStridedSlice S298x1024 ![1, 0] p slices_S299x1024_o1_0_S298x1024
  have v37 : FVec Ideal S1024x512 .f32 := shapeCast S1024x512 w' shapeCasts_S1024x512_S1024x512
  have v38 : FVec Ideal S298x512 .f32 := matmul dot_S298x1024_S1024x512_S298x512_1_0_0_1_n_n none v35 v37 cst
  have v39 : FVec Ideal S298x512 .f32 := addf v34 v38
  have v41 : FVec Ideal S1x512 .f32 := shapeCast S1x512 b shapeCasts_S1x512_S1x512
  have v42 : FVec Ideal S298x512 .f32 := broadcastTo S298x512 v41 broadcasts_S1x512_S298x512
  have v43 : FVec Ideal S298x512 .f32 := addf v39 v42
  maximumf v43 (broadcast S298x512 (Scalar.ofBits .f32 0x00000000#32))

/-- The last layer, from the one before. -/
def lay4 (h : FVec Ideal S298x512 .f32) (w w' : Vec Ideal S1024x512 .f32) (b : Vec Ideal S1x512 .f32) : FVec Ideal S148x512 .f32 :=
  have p : FVec Ideal S149x1024 .f32 := shapeCast S149x1024 h shapeCasts_S298x512_S149x1024
  have v31 : FVec Ideal S148x1024 .f32 := extractStridedSlice S148x1024 ![0, 0] p slices_S149x1024_o0_0_S148x1024
  have v33 : FVec Ideal S1024x512 .f32 := shapeCast S1024x512 w shapeCasts_S1024x512_S1024x512
  have cst : FVec Ideal S148x512 .f32 := constant S148x512 .f32 0x00000000#32
  have v34 : FVec Ideal S148x512 .f32 := matmul dot_S148x1024_S1024x512_S148x512_1_0_0_1_n_n none v31 v33 cst
  have v35 : FVec Ideal S148x1024 .f32 := extractStridedSlice S148x1024 ![1, 0] p slices_S149x1024_o1_0_S148x1024
  have v37 : FVec Ideal S1024x512 .f32 := shapeCast S1024x512 w' shapeCasts_S1024x512_S1024x512
  have v38 : FVec Ideal S148x512 .f32 := matmul dot_S148x1024_S1024x512_S148x512_1_0_0_1_n_n none v35 v37 cst
  have v39 : FVec Ideal S148x512 .f32 := addf v34 v38
  have v41 : FVec Ideal S1x512 .f32 := shapeCast S1x512 b shapeCasts_S1x512_S1x512
  have v42 : FVec Ideal S148x512 .f32 := broadcastTo S148x512 v41 broadcasts_S1x512_S148x512
  have v43 : FVec Ideal S148x512 .f32 := addf v39 v42
  maximumf v43 (broadcast S148x512 (Scalar.ofBits .f32 0x00000000#32))

/-- The kernel's last features are the five layers. -/
theorem pay7_eq (v0 : Vec Ideal S1x1200x20 .f32) (v6 : Vec Ideal S30x2048 .f32) (v9 : Vec Ideal S1x2048 .f32) (v16 v20 : Vec Ideal S2048x512 .f32)
    (v24 : Vec Ideal S1x512 .f32) (v32 v36 : Vec Ideal S1024x512 .f32) (v40 : Vec Ideal S1x512 .f32) (v48 v52 : Vec Ideal S1024x512 .f32)
    (v56 : Vec Ideal S1x512 .f32) (v64 v68 : Vec Ideal S1024x512 .f32) (v72 : Vec Ideal S1x512 .f32) :
    k0_pay7 (k0_pay5 (k0_pay3 v0 v6 v9 v16 v20 v24 v32) (k0_pay4 v0 v6 v9 v16 v20 v24) v36 v40 v48 v52 v56 v64 v68) (k0_pay6 v72)
      = lay4 (lay3 (lay2 (lay1 (lay0 v0 v6 v9) v16 v20 v24) v32 v36 v40) v48 v52 v56) v64 v68 v72 := rfl

/-- One row of the input and the first ten samples of the next, side by side. -/
def row (x : Vec Ideal S1x1200x20 .f32) (r : Fin 1200) (q : Fin 30) : EReal :=
  if h : q.1 < 20 then x (ix3 0 r ⟨q.1, h⟩) else if h' : r.1 < 1199 then x (ix3 0 ⟨1 + r.1, by omega⟩ ⟨q.1 - 20, by omega⟩) else 0

set_option maxHeartbeats 4000000 in
/-- The first layer is the product of the rows with the packed weights, plus the bias, cut at zero. -/
theorem lay0_apply (x : Vec Ideal S1x1200x20 .f32) (w : Vec Ideal S30x2048 .f32) (b : Vec Ideal S1x2048 .f32) (r : Fin 1200) (q : Fin 2048) :
    lay0 x w b (ix2 r q) = max ((∑ k, row x r k * w (ix2 k q)) + b (ix2 0 q)) 0 := by
  have e : (∑ k, row x r k * w (ix2 k q)) = (∑ k : Fin 20, row x r ⟨k.1, by omega⟩ * w (ix2 ⟨k.1, by omega⟩ q))
      + ∑ k : Fin 10, row x r ⟨20 + k.1, by omega⟩ * w (ix2 ⟨20 + k.1, by omega⟩ q) :=
    Fin.sum_univ_add (a := 20) (b := 10) (fun k => row x r k * w (ix2 k q))
  have e0 : ∀ k : Fin 20, row x r ⟨k.1, by omega⟩ = x (ix3 0 r k) := fun k => by simp [row]
  have e1 : ∀ k : Fin 10, row x r ⟨20 + k.1, by omega⟩ = if h : r.1 < 1199 then x (ix3 0 ⟨1 + r.1, by omega⟩ ⟨k.1, by omega⟩) else 0 :=
    fun k => by simp [row]
  rw [e]
  simp only [e0, e1]
  pointwise [lay0]

set_option maxHeartbeats 4000000 in
/-- The second layer at a row and a channel. -/
theorem lay1_apply (f : FVec Ideal S1200x2048 .f32) (w w' : Vec Ideal S2048x512 .f32) (b : Vec Ideal S1x512 .f32) (t : Fin 1198) (o : Fin 512) :
    lay1 f w w' b (ix2 t o) = max (∑ q : Fin 2048, f (ix2 (⟨t.1, by omega⟩ : Fin 1200) q) * w (ix2 q o)
      + ∑ q : Fin 2048, f (ix2 (⟨1 + t.1, by omega⟩ : Fin 1200) q) * w' (ix2 q o) + b (ix2 0 o)) 0 := by
  pointwise [lay1]

set_option maxHeartbeats 4000000 in
/-- The third layer at a row and a channel. -/
theorem lay2_apply (h : FVec Ideal S1198x512 .f32) (w w' : Vec Ideal S1024x512 .f32) (b : Vec Ideal S1x512 .f32) (t : Fin 598) (o : Fin 512) :
    lay2 h w w' b (ix2 t o) = max (∑ q : Fin 1024, h (ix2 (⟨t.1 * 2 + q.1 / 512, by omega⟩ : Fin 1198) (⟨q.1 % 512, by omega⟩ : Fin 512)) * w (ix2 q o)
      + ∑ q : Fin 1024, h (ix2 (⟨(1 + t.1) * 2 + q.1 / 512, by omega⟩ : Fin 1198) (⟨q.1 % 512, by omega⟩ : Fin 512)) * w' (ix2 q o) + b (ix2 0 o)) 0 := by
  pointwise [lay2]

set_option maxHeartbeats 4000000 in
/-- The fourth layer at a row and a channel. -/
theorem lay3_apply (h : FVec Ideal S598x512 .f32) (w w' : Vec Ideal S1024x512 .f32) (b : Vec Ideal S1x512 .f32) (t : Fin 298) (o : Fin 512) :
    lay3 h w w' b (ix2 t o) = max (∑ q : Fin 1024, h (ix2 (⟨t.1 * 2 + q.1 / 512, by omega⟩ : Fin 598) (⟨q.1 % 512, by omega⟩ : Fin 512)) * w (ix2 q o)
      + ∑ q : Fin 1024, h (ix2 (⟨(1 + t.1) * 2 + q.1 / 512, by omega⟩ : Fin 598) (⟨q.1 % 512, by omega⟩ : Fin 512)) * w' (ix2 q o) + b (ix2 0 o)) 0 := by
  pointwise [lay3]

set_option maxHeartbeats 4000000 in
/-- The last layer at a row and a channel. -/
theorem lay4_apply (h : FVec Ideal S298x512 .f32) (w w' : Vec Ideal S1024x512 .f32) (b : Vec Ideal S1x512 .f32) (t : Fin 148) (o : Fin 512) :
    lay4 h w w' b (ix2 t o) = max (∑ q : Fin 1024, h (ix2 (⟨t.1 * 2 + q.1 / 512, by omega⟩ : Fin 298) (⟨q.1 % 512, by omega⟩ : Fin 512)) * w (ix2 q o)
      + ∑ q : Fin 1024, h (ix2 (⟨(1 + t.1) * 2 + q.1 / 512, by omega⟩ : Fin 298) (⟨q.1 % 512, by omega⟩ : Fin 512)) * w' (ix2 q o) + b (ix2 0 o)) 0 := by
  pointwise [lay4]

/-- The first layer's rows hold four neighbouring positions of the convolution. -/
theorem lay0_conv (n : Fin 4) (wav : Spec.Arr2 4 24000) (w0 : Spec.Arr3 512 1 10) (b0 : Spec.Arr1 512)
    (x : Vec Ideal S1x1200x20 .f32) (w : Vec Ideal S30x2048 .f32) (b : Vec Ideal S1x2048 .f32)
    (hx : ∀ (r : Fin 1200) (q : Fin 20), x (ix3 0 r q) = wav (ix2 n ⟨20 * r.1 + q.1, by omega⟩))
    (hw : ∀ (j : Fin 4) (o : Fin 512) (k : Fin 10), w (ix2 ⟨5 * j.1 + k.1, by omega⟩ ⟨512 * j.1 + o.1, by omega⟩) = w0 (ix3 o 0 k))
    (hw' : ∀ (j : Fin 4) (o : Fin 512) (q : Fin 30), (q.1 < 5 * j.1 ∨ 5 * j.1 + 10 ≤ q.1) → w (ix2 q ⟨512 * j.1 + o.1, by omega⟩) = 0)
    (hb : ∀ (j : Fin 4) (o : Fin 512), b (ix2 0 ⟨512 * j.1 + o.1, by omega⟩) = b0 (ix1 o))
    (r : Fin 1200) (hr : r.1 < 1199) (j : Fin 4) (o : Fin 512) :
    lay0 x w b (ix2 r ⟨512 * j.1 + o.1, by omega⟩)
      = Spec.conv₁ 10 5 24000 4799 (by omega) w0 b0 wav n o ⟨4 * r.1 + j.1, by omega⟩ := by
  have hrow : ∀ q : Fin 30, row x r q = wav (ix2 n ⟨20 * r.1 + q.1, by omega⟩) := by
    intro q
    unfold row
    split
    · rw [hx]
    · rw [hx]
      exact congrArg wav (congrArg (ix2 n) (Fin.ext (by simp only; omega)))
  rw [lay0_apply, Spec.conv₁, hb, Sums.sum_stretch (a := 5 * j.1) (K := 10) (by omega) _ (fun q => w (ix2 q ⟨512 * j.1 + o.1, by omega⟩))
    (fun k => w0 (ix3 o 0 k)) (hw j o) (hw' j o)]
  refine congrArg (fun e => max (e + b0 (ix1 o)) 0) (Finset.sum_congr rfl fun k _ => ?_)
  rw [hrow]
  exact congrArg (fun e => w0 (ix3 o 0 k) * wav (ix2 n e)) (Fin.ext (by simp only; omega))

/-- The second layer is its convolution, its rows being the first layer's four positions. -/
theorem lay1_conv (n : Fin 4) (h : Fin 4 → Fin 512 → Fin 4799 → EReal) (w1 : Spec.Arr3 512 512 8) (b1 : Spec.Arr1 512)
    (f : FVec Ideal S1200x2048 .f32) (w w' : Vec Ideal S2048x512 .f32) (b : Vec Ideal S1x512 .f32)
    (hf : ∀ (r : Fin 1200) (hr : r.1 < 1199) (j : Fin 4) (i : Fin 512), f (ix2 r ⟨512 * j.1 + i.1, by omega⟩) = h n i ⟨4 * r.1 + j.1, by omega⟩)
    (hw : ∀ (k : Fin 4) (i o : Fin 512), w (ix2 ⟨512 * k.1 + i.1, by omega⟩ o) = w1 (ix3 o i ⟨k.1, by omega⟩))
    (hw' : ∀ (k : Fin 4) (i o : Fin 512), w' (ix2 ⟨512 * k.1 + i.1, by omega⟩ o) = w1 (ix3 o i ⟨4 + k.1, by omega⟩))
    (hb : ∀ o : Fin 512, b (ix2 0 o) = b1 (ix1 o)) (t : Fin 1198) (o : Fin 512) :
    lay1 f w w' b (ix2 t o) = Spec.conv 8 4 4799 1198 (by omega) w1 b1 h n o t := by
  rw [lay1_apply]
  refine Sums.conv_of_halves (J := 4) rfl rfl (by omega) w1 b1 h n o t _ _ (fun q => w (ix2 q o)) (fun q => w' (ix2 q o)) _ ?_ ?_
    (fun k i => hw k i o) (fun k i => hw' k i o) (hb o)
  · intro k i
    rw [hf _ (by show t.1 < 1199; omega)]
    exact congrArg (h n i) (Fin.ext (by simp only; omega))
  · intro k i
    rw [hf _ (by show 1 + t.1 < 1199; omega)]
    exact congrArg (h n i) (Fin.ext (by simp only; omega))

/-- Two neighbouring rows side by side hold, at column `512 k + i`, row `k`'s channel `i`. -/
theorem two_rows {T : ℕ} (h : Fin T → Fin 512 → EReal) (a b : ℕ) (k : Fin 2) (i : Fin 512) (ha : a + (512 * k.1 + i.1) / 512 < T) (hb : b < T)
    (hab : b = a + k.1) : h ⟨a + (512 * k.1 + i.1) / 512, ha⟩ ⟨(512 * k.1 + i.1) % 512, by omega⟩ = h ⟨b, hb⟩ i := by
  have e1 : (⟨a + (512 * k.1 + i.1) / 512, ha⟩ : Fin T) = ⟨b, hb⟩ := Fin.ext (by simp only; omega)
  have e2 : (⟨(512 * k.1 + i.1) % 512, by omega⟩ : Fin 512) = i := Fin.ext (by simp only; omega)
  rw [e1, e2]

/-- The third layer is its convolution. -/
theorem lay2_conv (n : Fin 4) (h : Fin 4 → Fin 512 → Fin 1198 → EReal) (w0 : Spec.Arr3 512 512 4) (b0 : Spec.Arr1 512)
    (f : FVec Ideal S1198x512 .f32) (w w' : Vec Ideal S1024x512 .f32) (b : Vec Ideal S1x512 .f32)
    (hf : ∀ (r : Fin 1198) (i : Fin 512), f (ix2 r i) = h n i r)
    (hw : ∀ (k : Fin 2) (i o : Fin 512), w (ix2 ⟨512 * k.1 + i.1, by omega⟩ o) = w0 (ix3 o i ⟨k.1, by omega⟩))
    (hw' : ∀ (k : Fin 2) (i o : Fin 512), w' (ix2 ⟨512 * k.1 + i.1, by omega⟩ o) = w0 (ix3 o i ⟨2 + k.1, by omega⟩))
    (hb : ∀ o : Fin 512, b (ix2 0 o) = b0 (ix1 o)) (t : Fin 598) (o : Fin 512) :
    lay2 f w w' b (ix2 t o) = Spec.conv 4 2 1198 598 (by omega) w0 b0 h n o t := by
  rw [lay2_apply]
  refine Sums.conv_of_halves (J := 2) rfl rfl (by omega) w0 b0 h n o t _ _ (fun q => w (ix2 q o)) (fun q => w' (ix2 q o)) _ ?_ ?_
    (fun k i => hw k i o) (fun k i => hw' k i o) (hb o)
  · intro k i
    rw [← hf]
    exact two_rows (fun r i => f (ix2 r i)) _ _ k i _ _ (by omega)
  · intro k i
    rw [← hf]
    exact two_rows (fun r i => f (ix2 r i)) _ _ k i _ _ (by omega)

/-- The fourth layer is its convolution. -/
theorem lay3_conv (n : Fin 4) (h : Fin 4 → Fin 512 → Fin 598 → EReal) (w0 : Spec.Arr3 512 512 4) (b0 : Spec.Arr1 512)
    (f : FVec Ideal S598x512 .f32) (w w' : Vec Ideal S1024x512 .f32) (b : Vec Ideal S1x512 .f32)
    (hf : ∀ (r : Fin 598) (i : Fin 512), f (ix2 r i) = h n i r)
    (hw : ∀ (k : Fin 2) (i o : Fin 512), w (ix2 ⟨512 * k.1 + i.1, by omega⟩ o) = w0 (ix3 o i ⟨k.1, by omega⟩))
    (hw' : ∀ (k : Fin 2) (i o : Fin 512), w' (ix2 ⟨512 * k.1 + i.1, by omega⟩ o) = w0 (ix3 o i ⟨2 + k.1, by omega⟩))
    (hb : ∀ o : Fin 512, b (ix2 0 o) = b0 (ix1 o)) (t : Fin 298) (o : Fin 512) :
    lay3 f w w' b (ix2 t o) = Spec.conv 4 2 598 298 (by omega) w0 b0 h n o t := by
  rw [lay3_apply]
  refine Sums.conv_of_halves (J := 2) rfl rfl (by omega) w0 b0 h n o t _ _ (fun q => w (ix2 q o)) (fun q => w' (ix2 q o)) _ ?_ ?_
    (fun k i => hw k i o) (fun k i => hw' k i o) (hb o)
  · intro k i
    rw [← hf]
    exact two_rows (fun r i => f (ix2 r i)) _ _ k i _ _ (by omega)
  · intro k i
    rw [← hf]
    exact two_rows (fun r i => f (ix2 r i)) _ _ k i _ _ (by omega)

/-- The last layer is its convolution. -/
theorem lay4_conv (n : Fin 4) (h : Fin 4 → Fin 512 → Fin 298 → EReal) (w0 : Spec.Arr3 512 512 4) (b0 : Spec.Arr1 512)
    (f : FVec Ideal S298x512 .f32) (w w' : Vec Ideal S1024x512 .f32) (b : Vec Ideal S1x512 .f32)
    (hf : ∀ (r : Fin 298) (i : Fin 512), f (ix2 r i) = h n i r)
    (hw : ∀ (k : Fin 2) (i o : Fin 512), w (ix2 ⟨512 * k.1 + i.1, by omega⟩ o) = w0 (ix3 o i ⟨k.1, by omega⟩))
    (hw' : ∀ (k : Fin 2) (i o : Fin 512), w' (ix2 ⟨512 * k.1 + i.1, by omega⟩ o) = w0 (ix3 o i ⟨2 + k.1, by omega⟩))
    (hb : ∀ o : Fin 512, b (ix2 0 o) = b0 (ix1 o)) (t : Fin 148) (o : Fin 512) :
    lay4 f w w' b (ix2 t o) = Spec.conv 4 2 298 148 (by omega) w0 b0 h n o t := by
  rw [lay4_apply]
  refine Sums.conv_of_halves (J := 2) rfl rfl (by omega) w0 b0 h n o t _ _ (fun q => w (ix2 q o)) (fun q => w' (ix2 q o)) _ ?_ ?_
    (fun k i => hw k i o) (fun k i => hw' k i o) (hb o)
  · intro k i
    rw [← hf]
    exact two_rows (fun r i => f (ix2 r i)) _ _ k i _ _ (by omega)
  · intro k i
    rw [← hf]
    exact two_rows (fun r i => f (ix2 r i)) _ _ k i _ _ (by omega)

end Cert.Body

end
-- ==== Proof.Codes.lean ====
/- The kernel's codes: for each group, the first codeword at the least distance from the last features. -/
module

public import proofs.«01_k».proof.Proof.ArgMin
public import proofs.«01_k».proof.Proof.Gen.KernelIdeal.Frame
public import Idealize.ShloMosaic.Lib.Pointwise

@[expose] public section

set_option Elab.async false

noncomputable section

namespace Cert.Body

open Cert.KernelIdeal Cert.KernelIdeal.Gen Idealize.ShloMosaic Idealize.ShloMosaic.TcCoe Idealize.SL.Sem Idealize.ShloMosaic.StableHlo

/-- The distances the kernel forms at row `t`, from the features' 256 columns that start at `a` and the codebook block `v`. -/
def distAt (f : FVec Ideal S148x512 .f32) (v : Vec Ideal S1x256x320 .f32) (a : ℕ) (ha : a + 256 ≤ 512) (t : Fin 148) (k : Fin 320) : EReal :=
  (∑ d : Fin 256, f (ix2 t ⟨a + d.1, by omega⟩) * f (ix2 t ⟨a + d.1, by omega⟩))
    - Ideal.ofBits .f32 0x40000000#32 * (∑ d : Fin 256, f (ix2 t ⟨a + d.1, by omega⟩) * v (ix3 0 d k))
    + ∑ d : Fin 256, v (ix3 0 d k) * v (ix3 0 d k)

/-- They are the problem's distances. -/
theorem distAt_eq (cb : Spec.Arr3 2 320 256) (h : Fin 4 → Fin 512 → Fin 148 → EReal) (n : Fin 4) (f : FVec Ideal S148x512 .f32)
    (v : Vec Ideal S1x256x320 .f32) (g : Fin 2) (a : ℕ) (ha : a + 256 ≤ 512) (hg : a = 256 * g.1)
    (hf : ∀ (t : Fin 148) (o : Fin 512), f (ix2 t o) = h n o t) (hv : ∀ (d : Fin 256) (k : Fin 320), v (ix3 0 d k) = cb (ix3 g k d)) (t : Fin 148) :
    distAt f v a ha t = Spec.dist cb h n t g := by
  subst hg
  funext k
  unfold distAt Spec.dist
  simp only [hf, hv]
  refine congrArg (fun e => _ - _ * e + _) (Finset.sum_congr rfl fun d _ => mul_comm _ _)

set_option maxHeartbeats 4000000 in
/-- The first group's codes. -/
theorem code0 (v71 : FVec Ideal S148x512 .f32) (v73 : FVec Ideal S1x512 .f32) (v : Vec Ideal S1x256x320 .f32) (t : Fin 148) :
    Spec.IsCode (distAt (k0_pay7 v71 v73) v 0 (by omega) t) (k0_pay8 v71 v73 v (ix3 0 0 t)) := by
  have e : k0_pay8 v71 v73 v (ix3 0 0 t) = Finset.fold IntOp.minsi 2147483647#32
      (fun x => if distAt (k0_pay7 v71 v73) v 0 (by omega) t x
          = Finset.fold min (Ideal.ofBits .f32 0x7F800000#32) (fun x => distAt (k0_pay7 v71 v73) v 0 (by omega) t x) Finset.univ
        then BitVec.ofNat 32 x.1 else 320#32) Finset.univ := by
    unfold distAt
    simp only [Nat.zero_add]
    pointwise [k0_pay8]
  rw [e]
  exact ArgMin.isCode_fold _

set_option maxHeartbeats 4000000 in
/-- The second group's codes. -/
theorem code1 (v71 : FVec Ideal S148x512 .f32) (v73 : FVec Ideal S1x512 .f32) (v : Vec Ideal S1x256x320 .f32) (t : Fin 148) :
    Spec.IsCode (distAt (k0_pay7 v71 v73) v 256 (by omega) t)
      (k0_pay1 (k0_pay9 v71 v73) (k0_pay10 v) (k0_pay11 v71 v73) (k0_pay12 v) (ix3 0 0 t)) := by
  have e : k0_pay1 (k0_pay9 v71 v73) (k0_pay10 v) (k0_pay11 v71 v73) (k0_pay12 v) (ix3 0 0 t) = Finset.fold IntOp.minsi 2147483647#32
      (fun x => if distAt (k0_pay7 v71 v73) v 256 (by omega) t x
          = Finset.fold min (Ideal.ofBits .f32 0x7F800000#32) (fun x => distAt (k0_pay7 v71 v73) v 256 (by omega) t x) Finset.univ
        then BitVec.ofNat 32 x.1 else 320#32) Finset.univ := by
    unfold distAt
    pointwise [k0_pay1, k0_pay9, k0_pay10, k0_pay11, k0_pay12]
  rw [e]
  exact ArgMin.isCode_fold _

end Cert.Body

end
-- ==== Proof.Block.lean ====
/- One grid point of the kernel: from blocks that hold the problem's arrays, the output block holds the problem's codes. -/
module

public import proofs.«01_k».proof.Proof.Body
public import proofs.«01_k».proof.Proof.Codes
public import Idealize.ShloMosaic.Lib.Pipeline.ValueKit

@[expose] public section

set_option Elab.async false

noncomputable section

namespace Cert.Body

open Cert.KernelIdeal Cert.KernelIdeal.Gen Idealize.ShloMosaic Idealize.ShloMosaic.TcCoe Idealize.SL.Sem Idealize.ShloMosaic.StableHlo

/-- What the kernel's input blocks hold at batch `n`, said of the problem's arrays. -/
structure Blocks (n : Fin 4) (wav : Spec.Arr2 4 24000) (w0 : Spec.Arr3 512 1 10) (b0 : Spec.Arr1 512) (w1 : Spec.Arr3 512 512 8)
    (b1 : Spec.Arr1 512) (w2 : Spec.Arr3 512 512 4) (b2 : Spec.Arr1 512) (w3 : Spec.Arr3 512 512 4) (b3 : Spec.Arr1 512)
    (w4 : Spec.Arr3 512 512 4) (b4 : Spec.Arr1 512) (cb : Spec.Arr3 2 320 256)
    (x0 : Vec Ideal S1x1200x20 .f32) (x1 : Vec Ideal S30x2048 .f32) (x2 : Vec Ideal S4096x512 .f32) (x3 x4 x5 : Vec Ideal S2048x512 .f32)
    (x6 : Vec Ideal S1x2048 .f32) (x7 x8 x9 x10 : Vec Ideal S1x512 .f32) (x11 : Vec Ideal S2x256x320 .f32) : Prop where
  hx : ∀ (r : Fin 1200) (q : Fin 20), x0 (ix3 0 r q) = wav (ix2 n ⟨20 * r.1 + q.1, by omega⟩)
  hw0 : ∀ (j : Fin 4) (o : Fin 512) (k : Fin 10), x1 (ix2 ⟨5 * j.1 + k.1, by omega⟩ ⟨512 * j.1 + o.1, by omega⟩) = w0 (ix3 o 0 k)
  hz0 : ∀ (j : Fin 4) (o : Fin 512) (q : Fin 30), (q.1 < 5 * j.1 ∨ 5 * j.1 + 10 ≤ q.1) → x1 (ix2 q ⟨512 * j.1 + o.1, by omega⟩) = 0
  hb0 : ∀ (j : Fin 4) (o : Fin 512), x6 (ix2 0 ⟨512 * j.1 + o.1, by omega⟩) = b0 (ix1 o)
  hw1 : ∀ (k : Fin 8) (i o : Fin 512), x2 (ix2 ⟨512 * k.1 + i.1, by omega⟩ o) = w1 (ix3 o i k)
  hb1 : ∀ o : Fin 512, x7 (ix2 0 o) = b1 (ix1 o)
  hw2 : ∀ (k : Fin 4) (i o : Fin 512), x3 (ix2 ⟨512 * k.1 + i.1, by omega⟩ o) = w2 (ix3 o i k)
  hb2 : ∀ o : Fin 512, x8 (ix2 0 o) = b2 (ix1 o)
  hw3 : ∀ (k : Fin 4) (i o : Fin 512), x4 (ix2 ⟨512 * k.1 + i.1, by omega⟩ o) = w3 (ix3 o i k)
  hb3 : ∀ o : Fin 512, x9 (ix2 0 o) = b3 (ix1 o)
  hw4 : ∀ (k : Fin 4) (i o : Fin 512), x5 (ix2 ⟨512 * k.1 + i.1, by omega⟩ o) = w4 (ix3 o i k)
  hb4 : ∀ o : Fin 512, x10 (ix2 0 o) = b4 (ix1 o)
  hcb : ∀ (g : Fin 2) (d : Fin 256) (k : Fin 320), x11 (ix3 g d k) = cb (ix3 g k d)

/-- A load of rows from row `a` on reads row `a + q`. -/
theorem ld_rows {R R' C : ℕ} (X : Vec Ideal (⟨2, ![R, C]⟩ : Shape) .f32) (a : ℕ) (inb) (q : Fin R') (o : Fin C) (ha : a + q.1 < R) :
    View.ld X (Rect.unit (s := ⟨2, ![R, C]⟩) ![a, 0] (⟨2, ![R', C]⟩ : Shape).size inb) (ix2 q o) = X (ix2 ⟨a + q.1, ha⟩ o) := by
  refine View.ld_unit_apply_of X _ _ inb (ix2 q o) _ fun x => ?_
  match x with
  | 0 => rfl
  | 1 => exact (Nat.zero_add _).symm

section

variable {n : Fin 4} {wav : Spec.Arr2 4 24000} {w0 : Spec.Arr3 512 1 10} {b0 : Spec.Arr1 512} {w1 : Spec.Arr3 512 512 8}
    {b1 : Spec.Arr1 512} {w2 : Spec.Arr3 512 512 4} {b2 : Spec.Arr1 512} {w3 : Spec.Arr3 512 512 4} {b3 : Spec.Arr1 512}
    {w4 : Spec.Arr3 512 512 4} {b4 : Spec.Arr1 512} {cb : Spec.Arr3 2 320 256}
    {x0 : Vec Ideal S1x1200x20 .f32} {x1 : Vec Ideal S30x2048 .f32} {x2 : Vec Ideal S4096x512 .f32} {x3 x4 x5 : Vec Ideal S2048x512 .f32}
    {x6 : Vec Ideal S1x2048 .f32} {x7 x8 x9 x10 : Vec Ideal S1x512 .f32} {x11 : Vec Ideal S2x256x320 .f32}

/-- The kernel's last features are the problem's. -/
theorem features_eq (B : Blocks n wav w0 b0 w1 b1 w2 b2 w3 b3 w4 b4 cb x0 x1 x2 x3 x4 x5 x6 x7 x8 x9 x10 x11) (t : Fin 148) (o : Fin 512) :
    k0_pay7 (k0_pay13 x0 x1 x2 x3 x4 x5 x6 x7 x8 x9 x10 x11) (k0_pay14 x0 x1 x2 x3 x4 x5 x6 x7 x8 x9 x10 x11) (ix2 t o)
      = Spec.features wav w0 b0 w1 b1 w2 b2 w3 b3 w4 b4 n o t := by
  unfold k0_pay13 k0_pay14
  rw [pay7_eq]
  have e0 : View.ld x0 r0_0 = x0 := View.ld_unit_lit _ _ (by decide)
  have e1 : View.ld x1 r0_1 = x1 := View.ld_unit_lit _ _ (by decide)
  have e6 : View.ld x6 r0_2 = x6 := View.ld_unit_lit _ _ (by decide)
  have eb : ∀ x : Vec Ideal S1x512 .f32, View.ld x r0_5 = x := fun x => View.ld_unit_lit _ _ (by decide)
  rw [e0, e1, e6, eb, eb, eb, eb]
  unfold Spec.features
  have h2 : ∀ (x : Vec Ideal S2048x512 .f32) (w : Spec.Arr3 512 512 4)
      (_ : ∀ (k : Fin 4) (i o : Fin 512), x (ix2 ⟨512 * k.1 + i.1, by omega⟩ o) = w (ix3 o i k)) (k : Fin 2) (i o : Fin 512),
      View.ld x r0_6 (ix2 ⟨512 * k.1 + i.1, by omega⟩ o) = w (ix3 o i ⟨k.1, by omega⟩) := by
    intro x w hw k i o
    rw [← hw]
    refine (ld_rows x 0 _ _ o (by simp only; omega)).trans (congrArg (fun e => x (ix2 e o)) (Fin.ext ?_))
    simp only; omega
  have h2' : ∀ (x : Vec Ideal S2048x512 .f32) (w : Spec.Arr3 512 512 4)
      (_ : ∀ (k : Fin 4) (i o : Fin 512), x (ix2 ⟨512 * k.1 + i.1, by omega⟩ o) = w (ix3 o i k)) (k : Fin 2) (i o : Fin 512),
      View.ld x r0_7 (ix2 ⟨512 * k.1 + i.1, by omega⟩ o) = w (ix3 o i ⟨2 + k.1, by omega⟩) := by
    intro x w hw k i o
    rw [← hw]
    refine (ld_rows x 1024 _ _ o (by simp only; omega)).trans (congrArg (fun e => x (ix2 e o)) (Fin.ext ?_))
    simp only; omega
  refine lay4_conv n _ w4 b4 _ _ _ _ (fun r i => ?_) (h2 x5 w4 B.hw4) (h2' x5 w4 B.hw4) B.hb4 t o
  refine lay3_conv n _ w3 b3 _ _ _ _ (fun r i => ?_) (h2 x4 w3 B.hw3) (h2' x4 w3 B.hw3) B.hb3 r i
  refine lay2_conv n _ w2 b2 _ _ _ _ (fun r i => ?_) (h2 x3 w2 B.hw2) (h2' x3 w2 B.hw2) B.hb2 r i
  refine lay1_conv n _ w1 b1 _ _ _ _ (fun r hr j i => ?_) (fun k i o => ?_) (fun k i o => ?_) B.hb1 r i
  · exact lay0_conv n wav w0 b0 x0 x1 x6 B.hx B.hw0 B.hz0 B.hb0 r hr j i
  · rw [← B.hw1]
    refine (ld_rows x2 0 _ _ o (by simp only; omega)).trans (congrArg (fun e => x2 (ix2 e o)) (Fin.ext ?_))
    simp only; omega
  · rw [← B.hw1]
    refine (ld_rows x2 2048 _ _ o (by simp only; omega)).trans (congrArg (fun e => x2 (ix2 e o)) (Fin.ext ?_))
    simp only; omega

/-- A load of one group's codebook reads that group. -/
theorem ld_group (X : Vec Ideal S2x256x320 .f32) (g : Fin 2) (inb) (d : Fin 256) (k : Fin 320) :
    View.ld X (Rect.unit (s := S2x256x320) ![g.1, 0, 0] S1x256x320.size inb) (ix3 0 d k) = X (ix3 g d k) := by
  refine View.ld_unit_apply_of X _ _ inb (ix3 0 d k) _ fun x => ?_
  match x with
  | 0 => rfl
  | 1 => exact (Nat.zero_add _).symm
  | 2 => exact (Nat.zero_add _).symm

/-- A place of a one-row store is told by its column. -/
theorem tile_eq (t : Fin 148) (g : Fin 2) (x : S1x1x148.Idx) (h : ((ix3 0 g t : S1x2x148.Idx) 2 : ℕ) = 0 + (x 2 : ℕ)) : x = ix3 0 0 t := by
  funext a
  match a with
  | 0 => exact Subsingleton.elim (α := Fin 1) _ _
  | 1 => exact Subsingleton.elim (α := Fin 1) _ _
  | 2 => exact Fin.ext (h.trans (Nat.zero_add _)).symm

/-- The output block holds the problem's codes. -/
theorem out_code (B : Blocks n wav w0 b0 w1 b1 w2 b2 w3 b3 w4 b4 cb x0 x1 x2 x3 x4 x5 x6 x7 x8 x9 x10 x11) (g : Fin 2) (t : Fin 148) :
    Spec.IsCode (Spec.dist cb (Spec.features wav w0 b0 w1 b1 w2 b2 w3 b3 w4 b4) n t g)
      (out0_12 x0 x1 x2 x3 x4 x5 x6 x7 x8 x9 x10 x11 (ix3 0 g t)) := by
  have hf := features_eq B
  unfold out0_12
  generalize k0_pay13 x0 x1 x2 x3 x4 x5 x6 x7 x8 x9 x10 x11 = v71 at hf ⊢
  generalize k0_pay14 x0 x1 x2 x3 x4 x5 x6 x7 x8 x9 x10 x11 = v73 at hf ⊢
  have h0 := code0 v71 v73 (View.ld x11 r0_8) t
  have h1 := code1 v71 v73 (View.ld x11 r0_10) t
  rw [distAt_eq cb _ n _ (View.ld x11 r0_8) 0 0 _ rfl hf (fun d k => (ld_group x11 0 _ d k).trans (B.hcb 0 d k))] at h0
  rw [distAt_eq cb _ n _ (View.ld x11 r0_10) 1 256 _ rfl hf (fun d k => (ld_group x11 1 _ d k).trans (B.hcb 1 d k))] at h1
  match g with
  | 0 =>
    have e : (View.canon [⟨r0_11, k0_pay1 (k0_pay9 v71 v73) (k0_pay10 (View.ld x11 r0_10)) (k0_pay11 v71 v73) (k0_pay12 (View.ld x11 r0_10))⟩,
        ⟨r0_9, k0_pay8 v71 v73 (View.ld x11 r0_8)⟩] : Vec Ideal S1x2x148 .i32) (ix3 0 0 t) = k0_pay8 v71 v73 (View.ld x11 r0_8) (ix3 0 0 t) := by
      refine View.canon_eq_of_allAt _ _ _ (cover0_12 _ _ _) (View.allAt_cons_unit _ _ _ _ _ (fun x hx => ?_)
        (View.allAt_cons_unit _ _ _ _ _ (fun x hx => ?_) (View.allAt_nil _ _)))
      · have := hx 1
        change 0 = 1 + _ at this
        omega
      · rw [tile_eq t 0 x (hx 2)]
    rw [e]
    exact h0
  | 1 =>
    have e : (View.canon [⟨r0_11, k0_pay1 (k0_pay9 v71 v73) (k0_pay10 (View.ld x11 r0_10)) (k0_pay11 v71 v73) (k0_pay12 (View.ld x11 r0_10))⟩,
        ⟨r0_9, k0_pay8 v71 v73 (View.ld x11 r0_8)⟩] : Vec Ideal S1x2x148 .i32) (ix3 0 1 t) = k0_pay1 (k0_pay9 v71 v73) (k0_pay10 (View.ld x11 r0_10)) (k0_pay11 v71 v73)
          (k0_pay12 (View.ld x11 r0_10)) (ix3 0 0 t) := by
      refine View.canon_eq_of_allAt _ _ _ (cover0_12 _ _ _) (View.allAt_cons_unit _ _ _ _ _ (fun x hx => ?_)
        (View.allAt_cons_unit _ _ _ _ _ (fun x hx => ?_) (View.allAt_nil _ _)))
      · rw [tile_eq t 1 x (hx 2)]
      · have := hx 1
        have h1 := (x 1).2
        change 1 = 0 + (x 1).1 at this
        change (x 1).1 < 1 at h1
        omega
    rw [e]
    exact h1

end

end Cert.Body

end
-- ==== Proof.HostPre.lean ====
/- The host's lines before the launch: what the launch's arrays hold, read at an index of the problem's arrays. -/
module

public import proofs.«01_k».proof.Proof.Gen.KernelIdeal.Frame
public import proofs.«01_k».proof.Proof.Spec
public import Idealize.ShloMosaic.Lib.StableHlo.ReadAt
public import Idealize.ShloMosaic.Lib.Pointwise

@[expose] public section

set_option Elab.async false
set_option maxRecDepth 16384

noncomputable section

namespace Cert.HostPre

open Cert.KernelIdeal Cert.KernelIdeal.Gen Idealize.ShloMosaic Idealize.ShloMosaic.TcCoe Idealize.SL.Sem Idealize.ShloMosaic.StableHlo

/-- The host's lines before the launch. -/
abbrev pre : List (HloOp τ sig (Elt Ideal)) :=
  List.flatten [hostOps0, hostOps0_1, hostOps0_2, hostOps0_3, hostOps0_4, hostOps0_5, hostOps0_6, hostOps0_7, hostOps0_8]

variable (W : Valuation τ sig (Elt Ideal))

/-- The signal, cut in rows of 20. -/
theorem wav_at (n : Fin 4) (r : Fin 1200) (q : Fin 20) :
    after pre W (Proc.devRef .tc main_v0) (ix3 n r q) = W (Proc.devRef .tc main_arg0) (ix2 n ⟨20 * r.1 + q.1, by omega⟩) := by
  have e : (⟨20 * r.1 + q.1, by omega⟩ : Fin 24000) = ⟨r.1 * 20 + q.1, by omega⟩ := Fin.ext (by simp only; omega)
  rw [e]
  after_reads_at

/-- The second layer's weights, a row per tap and channel. -/
theorem w1_at (k : Fin 8) (i o : Fin 512) :
    after pre W (Proc.devRef .tc main_v13) (ix2 ⟨512 * k.1 + i.1, by omega⟩ o) = W (Proc.devRef .tc main_arg3) (ix3 o i k) := by
  after_reads_at

/-- Layer 3's weights, likewise. -/
theorem w2_at (k : Fin 4) (i o : Fin 512) :
    after pre W (Proc.devRef .tc main_v15) (ix2 ⟨512 * k.1 + i.1, by omega⟩ o) = W (Proc.devRef .tc main_arg5) (ix3 o i k) := by
  after_reads_at

/-- Layer 4's weights, likewise. -/
theorem w3_at (k : Fin 4) (i o : Fin 512) :
    after pre W (Proc.devRef .tc main_v17) (ix2 ⟨512 * k.1 + i.1, by omega⟩ o) = W (Proc.devRef .tc main_arg7) (ix3 o i k) := by
  after_reads_at

/-- Layer 5's weights, likewise. -/
theorem w4_at (k : Fin 4) (i o : Fin 512) :
    after pre W (Proc.devRef .tc main_v19) (ix2 ⟨512 * k.1 + i.1, by omega⟩ o) = W (Proc.devRef .tc main_arg9) (ix3 o i k) := by
  after_reads_at

/-- The first layer's bias, four times in a row. -/
theorem b0_at (j : Fin 4) (o : Fin 512) :
    after pre W (Proc.devRef .tc main_v11) (ix2 0 ⟨512 * j.1 + o.1, by omega⟩) = W (Proc.devRef .tc main_arg2) (ix1 o) := by
  have e : o = ⟨(512 * j.1 + o.1) % 512, Nat.mod_lt _ (by omega)⟩ := Fin.ext (by simp only; omega)
  refine Eq.trans ?_ (congrArg (fun i : Fin 512 => W (Proc.devRef .tc main_arg2) (ix1 i)) e.symm)
  after_reads_at

/-- The second layer's bias, as a row. -/
theorem b1_at (o : Fin 512) : after pre W (Proc.devRef .tc main_v21) (ix2 0 o) = W (Proc.devRef .tc main_arg4) (ix1 o) := by
  after_reads_at

/-- Layer 3's bias, as a row. -/
theorem b2_at (o : Fin 512) : after pre W (Proc.devRef .tc main_v22) (ix2 0 o) = W (Proc.devRef .tc main_arg6) (ix1 o) := by
  after_reads_at

/-- Layer 4's bias, as a row. -/
theorem b3_at (o : Fin 512) : after pre W (Proc.devRef .tc main_v23) (ix2 0 o) = W (Proc.devRef .tc main_arg8) (ix1 o) := by
  after_reads_at

/-- Layer 5's bias, as a row. -/
theorem b4_at (o : Fin 512) : after pre W (Proc.devRef .tc main_v24) (ix2 0 o) = W (Proc.devRef .tc main_arg10) (ix1 o) := by
  after_reads_at

/-- The codebook, code words as columns. -/
theorem cb_at (g : Fin 2) (d : Fin 256) (k : Fin 320) :
    after pre W (Proc.devRef .tc main_v20) (ix3 g d k) = W (Proc.devRef .tc main_arg11) (ix3 g k d) := by
  after_reads_at

/-- The lines that pad the first layer's weights. -/
abbrev pads : List (HloOp τ sig (Elt Ideal)) :=
  List.flatten [hostOps0, hostOps0_1, hostOps0_2, hostOps0_3, hostOps0_4, hostOps0_5, hostOps0_6, hostOps0_7]

/-- The first copy of the first layer's weights starts at row 0; the other rows are filler. -/
theorem v3_at (q : Fin 30) (o : Fin 512) : after pads W (Proc.devRef .tc main_v3) (ix2 q o) =
    if h : q.1 < 10 then W (Proc.devRef .tc main_arg1) (ix3 o 0 ⟨q.1, h⟩) else FloatOps.sitofp (F := Ideal) .f32 0#32 := by
  after_reads_at

/-- Copy 2 starts at row 5. -/
theorem v4_at (q : Fin 30) (o : Fin 512) : after pads W (Proc.devRef .tc main_v4) (ix2 q o) =
    if h : 5 ≤ q.1 ∧ q.1 - 5 < 10 then W (Proc.devRef .tc main_arg1) (ix3 o 0 ⟨q.1 - 5, h.2⟩) else FloatOps.sitofp (F := Ideal) .f32 0#32 := by
  after_reads_at

/-- Copy 3 starts at row 10. -/
theorem v5_at (q : Fin 30) (o : Fin 512) : after pads W (Proc.devRef .tc main_v5) (ix2 q o) =
    if h : 10 ≤ q.1 ∧ q.1 - 10 < 10 then W (Proc.devRef .tc main_arg1) (ix3 o 0 ⟨q.1 - 10, h.2⟩) else FloatOps.sitofp (F := Ideal) .f32 0#32 := by
  after_reads_at

/-- Copy 4 starts at row 15. -/
theorem v6_at (q : Fin 30) (o : Fin 512) : after pads W (Proc.devRef .tc main_v6) (ix2 q o) =
    if h : 15 ≤ q.1 ∧ q.1 - 15 < 10 then W (Proc.devRef .tc main_arg1) (ix3 o 0 ⟨q.1 - 15, h.2⟩) else FloatOps.sitofp (F := Ideal) .f32 0#32 := by
  after_reads_at

/-- The padding's filler is zero. -/
theorem filler : FloatOps.sitofp (F := Ideal) .f32 0#32 = (0 : EReal) := by
  show (((0#32).toInt : ℝ) : EReal) = 0
  simp

/-- The four copies side by side. -/
theorem v7_at (q : Fin 30) (j : Fin 4) (o : Fin 512) :
    after hostOps0_8 W (Proc.devRef .tc main_v7) (ix2 q ⟨512 * j.1 + o.1, by omega⟩) =
      (![W (Proc.devRef .tc main_v3), W (Proc.devRef .tc main_v4), W (Proc.devRef .tc main_v5), W (Proc.devRef .tc main_v6)] : Fin 4 → Vec Ideal S30x512 .f32) j (ix2 q o) := by
  after_reads_at
  have ho := o.2
  match j with
  | 0 =>
    rw [dif_pos (by simp only [Fin.val_zero]; omega)]
    exact congrArg (fun e : Fin 512 => W (Proc.devRef .tc main_v3) (ix2 q e)) (Fin.ext (by simp))
  | 1 =>
    rw [dif_neg (by simp only [Fin.val_one]; omega), dif_pos (by simp only [Fin.val_one]; omega)]
    exact congrArg (fun e : Fin 512 => W (Proc.devRef .tc main_v4) (ix2 q e)) (Fin.ext (by simp only [Fin.val_one]; omega))
  | 2 =>
    rw [dif_neg (by simp only [Fin.val_two]; omega), dif_neg (by simp only [Fin.val_two]; omega), dif_pos (by simp only [Fin.val_two]; omega)]
    exact congrArg (fun e : Fin 512 => W (Proc.devRef .tc main_v5) (ix2 q e)) (Fin.ext (by simp only [Fin.val_two]; omega))
  | 3 =>
    have e3 : (3 : Fin 4).1 = 3 := rfl
    rw [dif_neg (by rw [e3]; omega), dif_neg (by rw [e3]; omega), dif_neg (by rw [e3]; omega)]
    exact congrArg (fun e : Fin 512 => W (Proc.devRef .tc main_v6) (ix2 q e)) (Fin.ext (by simp only [e3]; omega))

/-- The packed weights of the first layer are the copies of the padded weights. -/
theorem v7_pre (q : Fin 30) (j : Fin 4) (o : Fin 512) :
    after pre W (Proc.devRef .tc main_v7) (ix2 q ⟨512 * j.1 + o.1, by omega⟩) =
      (![after pads W (Proc.devRef .tc main_v3), after pads W (Proc.devRef .tc main_v4), after pads W (Proc.devRef .tc main_v5),
        after pads W (Proc.devRef .tc main_v6)] : Fin 4 → Vec Ideal S30x512 .f32) j (ix2 q o) := by
  have e : pre = pads ++ hostOps0_8 := rfl
  rw [e, after_append]
  exact v7_at (after pads W) q j o

/-- Inside its band the packed array holds the weights. -/
theorem w0_at (j : Fin 4) (o : Fin 512) (k : Fin 10) :
    after pre W (Proc.devRef .tc main_v7) (ix2 ⟨5 * j.1 + k.1, by omega⟩ ⟨512 * j.1 + o.1, by omega⟩) = W (Proc.devRef .tc main_arg1) (ix3 o 0 k) := by
  have hk := k.2
  refine (v7_pre W ⟨5 * j.1 + k.1, by omega⟩ j o).trans ?_
  have key : ∀ e : Fin 10, e = k → W (Proc.devRef .tc main_arg1) (ix3 o 0 e) = W (Proc.devRef .tc main_arg1) (ix3 o 0 k) := fun e h => by rw [h]
  match j with
  | 0 => exact (v3_at W _ o).trans ((dif_pos (by simp)).trans (key _ (Fin.ext (by simp))))
  | 1 => exact (v4_at W _ o).trans ((dif_pos (by simp)).trans (key _ (Fin.ext (by simp))))
  | 2 => exact (v5_at W _ o).trans ((dif_pos (by simp)).trans (key _ (Fin.ext (by simp))))
  | 3 => exact (v6_at W _ o).trans ((dif_pos (by simp)).trans (key _ (Fin.ext (by simp))))

/-- Outside its band it holds zero. -/
theorem z0_at (j : Fin 4) (o : Fin 512) (q : Fin 30) (h : q.1 < 5 * j.1 ∨ 5 * j.1 + 10 ≤ q.1) :
    after pre W (Proc.devRef .tc main_v7) (ix2 q ⟨512 * j.1 + o.1, by omega⟩) = (0 : EReal) := by
  refine (v7_pre W q j o).trans ?_
  match j with
  | 0 => exact (v3_at W q o).trans ((dif_neg (by simp at h; omega)).trans filler)
  | 1 => exact (v4_at W q o).trans ((dif_neg (by simp at h; omega)).trans filler)
  | 2 => exact (v5_at W q o).trans ((dif_neg (by simp at h; omega)).trans filler)
  | 3 => exact (v6_at W q o).trans ((dif_neg (by change q.1 < 15 ∨ 25 ≤ q.1 at h; omega)).trans filler)

end Cert.HostPre

end
-- ==== Proof.Value.lean ====
/- The launch's input blocks: at every grid point they hold the problem's arrays. -/
module

public import proofs.«01_k».proof.Proof.Block
public import proofs.«01_k».proof.Proof.HostPre

@[expose] public section

set_option Elab.async false
set_option maxRecDepth 16384

noncomputable section

namespace Cert.KernelValue

open Cert.KernelIdeal Cert.KernelIdeal.Gen Idealize.ShloMosaic Idealize.ShloMosaic.TcCoe Idealize.SL.Sem Idealize.ShloMosaic.StableHlo

/-- Which block each window shows at a grid point: the signal and the result move with the batch, all else stands still. -/
theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0, 0] ∧ win0_12.index t = ![t.val, 0, 0] :=
  (by decide +kernel : ∀ t : Fin grid0.N, _)

variable (m : (ℓ : Loc nD τ sig) → Buf (Elt Ideal) ℓ)

/-- The batch a grid point works on. -/
def batch (t : Fin cfg0.N) : Fin 4 := ⟨t.val, t.isLt⟩

/-- The signal's block at a grid point is the batch of that number. -/
theorem blk0 (c : Dev nD) (t : Fin cfg0.N) (r : Fin 1200) (q : Fin 20) :
    iblk m c 0 t (ix3 0 r q) = V m c main_v0 (ix3 (batch t) r q) := by
  blk_ext [iblk, idx t, batch]

/-- Every other input's block is its whole array. -/
theorem blk1 (c : Dev nD) (t : Fin cfg0.N) : iblk m c 1 t = V m c main_v7 := by
  blk_ext! [iblk, idx t]

@[inherit_doc blk1] theorem blk2 (c : Dev nD) (t : Fin cfg0.N) : iblk m c 2 t = V m c main_v13 := by
  blk_ext! [iblk, idx t]

@[inherit_doc blk1] theorem blk3 (c : Dev nD) (t : Fin cfg0.N) : iblk m c 3 t = V m c main_v15 := by
  blk_ext! [iblk, idx t]

@[inherit_doc blk1] theorem blk4 (c : Dev nD) (t : Fin cfg0.N) : iblk m c 4 t = V m c main_v17 := by
  blk_ext! [iblk, idx t]

@[inherit_doc blk1] theorem blk5 (c : Dev nD) (t : Fin cfg0.N) : iblk m c 5 t = V m c main_v19 := by
  blk_ext! [iblk, idx t]

@[inherit_doc blk1] theorem blk6 (c : Dev nD) (t : Fin cfg0.N) : iblk m c 6 t = V m c main_v11 := by
  blk_ext! [iblk, idx t]

@[inherit_doc blk1] theorem blk7 (c : Dev nD) (t : Fin cfg0.N) : iblk m c 7 t = V m c main_v21 := by
  blk_ext! [iblk, idx t]

@[inherit_doc blk1] theorem blk8 (c : Dev nD) (t : Fin cfg0.N) : iblk m c 8 t = V m c main_v22 := by
  blk_ext! [iblk, idx t]

@[inherit_doc blk1] theorem blk9 (c : Dev nD) (t : Fin cfg0.N) : iblk m c 9 t = V m c main_v23 := by
  blk_ext! [iblk, idx t]

@[inherit_doc blk1] theorem blk10 (c : Dev nD) (t : Fin cfg0.N) : iblk m c 10 t = V m c main_v24 := by
  blk_ext! [iblk, idx t]

@[inherit_doc blk1] theorem blk11 (c : Dev nD) (t : Fin cfg0.N) : iblk m c 11 t = V m c main_v20 := by
  blk_ext! [iblk, idx t]

/-- The blocks at a grid point hold the problem's arrays. -/
theorem blocks (c : Dev nD) (t : Fin cfg0.N) :
    Body.Blocks (batch t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  rw [blk1, blk2, blk3, blk4, blk5, blk6, blk7, blk8, blk9, blk10, blk11]
  exact {
    hx := fun r q => (blk0 m c t r q).trans (HostPre.wav_at _ (batch t) r q)
    hw0 := HostPre.w0_at _
    hz0 := HostPre.z0_at _
    hb0 := HostPre.b0_at _
    hw1 := HostPre.w1_at _
    hb1 := HostPre.b1_at _
    hw2 := HostPre.w2_at _
    hb2 := HostPre.b2_at _
    hw3 := HostPre.w3_at _
    hb3 := HostPre.b3_at _
    hw4 := HostPre.w4_at _
    hb4 := HostPre.b4_at _
    hcb := HostPre.cb_at _ }

end Cert.KernelValue

end
-- ==== Proof.Result.lean ====
/- The kernel's result: the array that the launch writes holds the problem's codes, and so does what the host makes of it. -/
module

public import proofs.«01_k».proof.Proof.Value

@[expose] public section

set_option Elab.async false
set_option maxRecDepth 16384

noncomputable section

namespace Cert.KernelValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The problem's distances, of the arguments as launched. -/
def distances (c : Dev nD) : Fin 4 → Fin 148 → Fin 2 → Fin 320 → EReal :=
  Spec.dist (m ((c : Thread nD τ).loc main_arg11)) (Spec.features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

/-- Grid point `t` writes its place `(g, s)` to place `(t, g, s)` of the array. -/
theorem emb_at (t : Fin cfg0.N) (g : Fin 2) (s : Fin 148) :
    (win0_12.blk t).view.emb (ix3 0 g s : S1x2x148.Idx) = (ix3 (batch t) g s : S4x2x148.Idx) := by
  blk_ext [idx t, batch]

/-- What a grid point writes is the problem's code at the place it writes to. -/
theorem point (c : Dev nD) (t : Fin cfg0.N) (y : S1x2x148.Idx) (i : S4x2x148.Idx) (h : (win0_12.blk t).view.emb y = i) :
    Spec.IsCode (distances m c (i 0) (i 2) (i 1))
      (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y) := by
  have hy : y = (ix3 0 (y 1) (y 2) : S1x2x148.Idx) := by
    funext a
    match a with
    | 0 => exact Subsingleton.elim (α := Fin 1) _ _
    | 1 => rfl
    | 2 => rfl
  rw [hy, emb_at t (y 1) (y 2)] at h
  rw [hy, ← h]
  exact Body.out_code (blocks m c t) (y 1) (y 2)

/-- The array the launch writes holds the problem's codes. -/
theorem launch_code (c : Dev nD) (i : S4x2x148.Idx) :
    Spec.IsCode (distances m c (i 0) (i 2) (i 1)) ((dats m 0 c).arrAt 12 (cfgs 0).N i) := by
  refine (dats m 0 c).arrAt_forall_of_covers 12 (fun (i : S4x2x148.Idx) v => Spec.IsCode (distances m c (i 0) (i 2) (i 1)) v) (by decide +kernel) (fun t hf y => ?_) i
  blk_simp
  rw [after0_12]
  exact point m c t y _ rfl

/-- The host's last lines put the two groups' codes side by side. -/
theorem tail_at (W : Valuation τ sig (Elt Ideal)) (n : Fin 4) (j : Fin 296) :
    after (List.flatten [hostOps1]) W (Proc.devRef .tc main_v27) (ix2 n j)
      = W (Proc.devRef .tc main_v25) (ix3 n ⟨j.1 % 2, by omega⟩ ⟨j.1 / 2, by omega⟩) := by
  after_reads_at

/-- The result holds the problem's codes. -/
theorem result_code (c : Dev nD) (n : Fin 4) (j : Fin 296) :
    Spec.IsCode (distances m c n ⟨j.1 / 2, by omega⟩ ⟨j.1 % 2, by omega⟩)
      (Pipeline.afterTail₀ cfgs (dats m) 0 (V0 m) [hostOps1] c main_v27 (ix2 n j)) := by
  unfold Pipeline.afterTail₀
  rw [tail_at]
  have e := Pipeline.withArrays_arr spec0 launch0.win.arr_inj c (V0 m c) (fun w => (dats m 0 c).arrAt w (cfgs 0).N) 12
  have h := launch_code m c (ix3 n ⟨j.1 % 2, by omega⟩ ⟨j.1 / 2, by omega⟩)
  rw [← e] at h
  exact h

end Cert.KernelValue

end
-- ==== Proof.Runs.lean ====
/- The two runs, as the claims put them: the kernel's and the reference's results and arguments. -/
module

public import proofs.«01_k».proof.Proof.Result
public import proofs.«01_k».proof.Proof.RefRun
public import proofs.«01_k».proof.Proof.RefValue

@[expose] public section

set_option Elab.async false
set_option maxRecDepth 16384

noncomputable section

namespace Cert.KernelValue

open Cert.KernelIdeal Cert.KernelIdeal.Gen Idealize.ShloMosaic Idealize.ShloMosaic.TcCoe Idealize.SL.Sem Idealize.ShloMosaic.StableHlo

/-- What the kernel's run leaves in its result. -/
def result (m : (ℓ : Loc nD τ sig) → Buf (Elt Ideal) ℓ) (c : Dev nD) : Buf (Elt Ideal) ((c.tc : Thread nD τ).loc main_v27) :=
  Pipeline.afterTail₀ cfgs (dats m) 0 (V0 m) [hostOps1] c main_v27

/-- A buffer that no window stages and no later line writes ends as launched. -/
theorem kept {m : (ℓ : Loc nD τ sig) → Buf (Elt Ideal) ℓ} {r : PUnit × MemSt nD τ sig (Elt Ideal)}
    (h : Pipeline.FramePost cfgs (dats m) 0 (Pipeline.afterTail₀ cfgs (dats m) 0 (V0 m) [hostOps1]) r) (c : Dev nD) {b : Ref sig .tc}
    (hs : b.isScoped = false) (ha : ∀ w, Pipeline.arrRef spec0 w ≠ b) {v : Buf (Elt Ideal) ((c.tc : Thread nD τ).loc b)}
    (e : Pipeline.afterTail₀ cfgs (dats m) 0 (V0 m) [hostOps1] c b = v) : r.2.mem ((c.tc : Thread nD τ).loc b) = v :=
  ((h c).2 b (Pipeline.mem_restRefs_of b hs ha)).trans e

/-- The kernel's run ends with `result`, and its arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11) :=
  (θ_run defs _ _).mono (fun r h c => ⟨kept h c (by decide) (by decide) rfl,
      kept h c (by decide) (by decide) (W_main_arg0 m (dats m) c),
      kept h c (by decide) (by decide) (W_main_arg1 m (dats m) c),
      kept h c (by decide) (by decide) (W_main_arg2 m (dats m) c),
      kept h c (by decide) (by decide) (W_main_arg3 m (dats m) c),
      kept h c (by decide) (by decide) (W_main_arg4 m (dats m) c),
      kept h c (by decide) (by decide) (W_main_arg5 m (dats m) c),
      kept h c (by decide) (by decide) (W_main_arg6 m (dats m) c),
      kept h c (by decide) (by decide) (W_main_arg7 m (dats m) c),
      kept h c (by decide) (by decide) (W_main_arg8 m (dats m) c),
      kept h c (by decide) (by decide) (W_main_arg9 m (dats m) c),
      kept h c (by decide) (by decide) (W_main_arg10 m (dats m) c),
      kept h c (by decide) (by decide) (W_main_arg11 m (dats m) c)⟩) (run_main m ρ)

end Cert.KernelValue

namespace Cert.RefLine

open Cert.ReferenceIdeal Cert.ReferenceIdeal.Gen Idealize.ShloMosaic Idealize.ShloMosaic.TcCoe Idealize.SL.Sem Idealize.ShloMosaic.StableHlo

/-- The reference's run keeps its arguments. -/
theorem unchanged {m : (ℓ : Loc nD τ sig) → Buf (Elt Ideal) ℓ} {r : PUnit × MemSt nD τ sig (Elt Ideal)}
    (h : ∀ (d : Dev nD) (b : Ref sig .tc), r.2.mem ((d.tc : Thread nD τ).loc b) = after ops (launchContents m d) (Proc.devRef .tc b)) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  have k : ∀ b ∈ [main_arg0, main_arg1, main_arg2, main_arg3, main_arg4, main_arg5, main_arg6, main_arg7, main_arg8, main_arg9, main_arg10, main_arg11],
      r.2.mem ((c.tc : Thread nD τ).loc b) = m ((c.tc : Thread nD τ).loc b) := fun b hb => (h c b).trans (ops_arg (launchContents m c) b hb)
  ⟨k main_arg0 (by simp), k main_arg1 (by simp), k main_arg2 (by simp), k main_arg3 (by simp), k main_arg4 (by simp), k main_arg5 (by simp), k main_arg6 (by simp), k main_arg7 (by simp), k main_arg8 (by simp), k main_arg9 (by simp), k main_arg10 (by simp), k main_arg11 (by simp)⟩

end Cert.RefLine

namespace Cert

open Idealize.ShloMosaic Idealize.ShloMosaic.TcCoe Idealize.SL.Sem Idealize.ShloMosaic.StableHlo

/-- From equal arguments the two programs leave equal results: both hold the problem's codes, and a code is one. -/
theorem results_eq (m : (ℓ : Loc KernelIdeal.nD KernelIdeal.τ KernelIdeal.sig) → Buf (Elt Ideal) ℓ) (c : Dev KernelIdeal.nD)
    (V : Valuation ReferenceIdeal.τ ReferenceIdeal.sig (Elt Ideal))
    (h0 : V (Proc.devRef .tc ReferenceIdeal.main_arg0) = m ((c.tc : Thread KernelIdeal.nD KernelIdeal.τ).loc KernelIdeal.main_arg0))
    (h1 : V (Proc.devRef .tc ReferenceIdeal.main_arg1) = m ((c.tc : Thread KernelIdeal.nD KernelIdeal.τ).loc KernelIdeal.main_arg1))
    (h2 : V (Proc.devRef .tc ReferenceIdeal.main_arg2) = m ((c.tc : Thread KernelIdeal.nD KernelIdeal.τ).loc KernelIdeal.main_arg2))
    (h3 : V (Proc.devRef .tc ReferenceIdeal.main_arg3) = m ((c.tc : Thread KernelIdeal.nD KernelIdeal.τ).loc KernelIdeal.main_arg3))
    (h4 : V (Proc.devRef .tc ReferenceIdeal.main_arg4) = m ((c.tc : Thread KernelIdeal.nD KernelIdeal.τ).loc KernelIdeal.main_arg4))
    (h5 : V (Proc.devRef .tc ReferenceIdeal.main_arg5) = m ((c.tc : Thread KernelIdeal.nD KernelIdeal.τ).loc KernelIdeal.main_arg5))
    (h6 : V (Proc.devRef .tc ReferenceIdeal.main_arg6) = m ((c.tc : Thread KernelIdeal.nD KernelIdeal.τ).loc KernelIdeal.main_arg6))
    (h7 : V (Proc.devRef .tc ReferenceIdeal.main_arg7) = m ((c.tc : Thread KernelIdeal.nD KernelIdeal.τ).loc KernelIdeal.main_arg7))
    (h8 : V (Proc.devRef .tc ReferenceIdeal.main_arg8) = m ((c.tc : Thread KernelIdeal.nD KernelIdeal.τ).loc KernelIdeal.main_arg8))
    (h9 : V (Proc.devRef .tc ReferenceIdeal.main_arg9) = m ((c.tc : Thread KernelIdeal.nD KernelIdeal.τ).loc KernelIdeal.main_arg9))
    (h10 : V (Proc.devRef .tc ReferenceIdeal.main_arg10) = m ((c.tc : Thread KernelIdeal.nD KernelIdeal.τ).loc KernelIdeal.main_arg10))
    (h11 : V (Proc.devRef .tc ReferenceIdeal.main_arg11) = m ((c.tc : Thread KernelIdeal.nD KernelIdeal.τ).loc KernelIdeal.main_arg11)) :
    after RefLine.ops V (Proc.devRef .tc ReferenceIdeal.main_v223) = KernelValue.result m c := by
  funext (i : (⟨2, ![4, 296]⟩ : Shape).Idx)
  have hi : i = ix2 (i 0) (i 1) := by
    funext a
    match a with
    | 0 => rfl
    | 1 => rfl
  rw [hi]
  have h := RefLine.ops_result V (i 0) (i 1)
  rw [h0, h1, h2, h3, h4, h5, h6, h7, h8, h9, h10, h11] at h
  exact h.unique (KernelValue.result_code m c (i 0) (i 1))

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Runs
public import Idealize.ShloMosaic.Adequacy
public import Idealize.ShloMosaic.Init

@[expose] public section

noncomputable section

namespace Cert.Proof

open Idealize.ShloMosaic Idealize.SL.Sem Cert.Kernel

/-- The reference's run ends, with its arguments as launched and, as it declares no semaphore, every counter at zero. -/
theorem reference_runs : Cert.quiescent_ReferenceIdeal (hReferenceIdeal := Cert.ReferenceIdeal.Gen.facts) := fun m g _ =>
  (θ_run Cert.ReferenceIdeal.defs _ _).mono (fun r h => ⟨fun c => Cert.RefLine.unchanged h c, sem_eq_zero_of_no_sems (by decide) r.2⟩)
    (Cert.RefLine.run m g)

/-- Kernel and reference, over the extended reals, end with equal results. -/
theorem equal_results : Cert.algebraic_KernelIdeal_ReferenceIdeal (hKernelIdeal := Cert.KernelIdeal.Gen.facts)
    (hReferenceIdeal := Cert.ReferenceIdeal.Gen.facts) := fun m g m' g' _ hargs =>
  ⟨Cert.KernelValue.result m, Cert.KernelValue.run m g,
    (θ_run Cert.ReferenceIdeal.defs _ _).mono (fun r h c => ⟨(h c Cert.ReferenceIdeal.main_v223).trans (by
        obtain ⟨h0, h1, h2, h3, h4, h5, h6, h7, h8, h9, h10, h11⟩ := hargs c
        exact Cert.results_eq m c _ h0 h1 h2 h3 h4 h5 h6 h7 h8 h9 h10 h11), Cert.RefLine.unchanged h c⟩) (Cert.RefLine.run m' g')⟩

/-- The five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_runs, trivial, equal_results⟩

end Cert.Proof

end
